-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S_ : Shape := ⟨0, ![]⟩
abbrev S8 : Shape := ⟨1, ![8]⟩
abbrev S1024x4096 : Shape := ⟨2, ![1024, 4096]⟩
abbrev S1024x1024 : Shape := ⟨2, ![1024, 1024]⟩
abbrev S1 : Shape := ⟨1, ![1]⟩
abbrev S8x1024x1024 : Shape := ⟨3, ![8, 1024, 1024]⟩
abbrev S4x1024x1024 : Shape := ⟨3, ![4, 1024, 1024]⟩
abbrev S1x1024x1024 : Shape := ⟨3, ![1, 1024, 1024]⟩

abbrev nBuf : Space → Nat
  | .hbm => 15
  | .vmem => 5
  | .smem => 1
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .f32⟩
  | .local _ .vmem, ⟨3, _⟩ => ⟨S8x1024x1024, .bf16⟩
  | .local _ .vmem, ⟨4, _⟩ => ⟨S4x1024x1024, .f32⟩
  | .local _ .smem, ⟨0, _⟩ => ⟨S8, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v11 : Ref sig .tc := ⟨.hbm, 14, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨2, ![8, 4], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_0 : BitVec 32 := 0#32
  let v6 : BitVec 1 := Scalar.cmpi .eq arg1 c0_i32_0
  let v7 : BitVec 1 := Scalar.andi v5 v6
  let v11 : BitVec 32 := Scalar.extui v7
  let c0_i32_1 : BitVec 32 := 0#32
  let v12 : BitVec 1 := Scalar.cmpi .ne v11 c0_i32_1
  v12

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v78 : BitVec 32 := Scalar.muli v2 c1024_i32
  let c0_i32_39 : BitVec 32 := 0#32
  ![v78.toNat, 0]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v83 : BitVec 32 := Scalar.addi v2 c1_i32_40
  let c8_i32_41 : BitVec 32 := 8#32
  let v84 : BitVec 32 := Scalar.remsi v83 c8_i32_41
  let c1_i32_43 : BitVec 32 := 1#32
  let v85 : BitVec 32 := Scalar.muli v84 c1_i32_43
  let v86 : BitVec 32 := Scalar.addi c0_i32_44 v85
  v86.toNat
def k0_dev2 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v87 : BitVec 32 := Scalar.addi v2 c2_i32_45
  let c8_i32_46 : BitVec 32 := 8#32
  let v88 : BitVec 32 := Scalar.remsi v87 c8_i32_46
  let c1_i32_48 : BitVec 32 := 1#32
  let v89 : BitVec 32 := Scalar.muli v88 c1_i32_48
  let v90 : BitVec 32 := Scalar.addi c0_i32_49 v89
  v90.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v91 : BitVec 32 := Scalar.addi v2 c3_i32_50
  let c8_i32_51 : BitVec 32 := 8#32
  let v92 : BitVec 32 := Scalar.remsi v91 c8_i32_51
  let c1_i32_53 : BitVec 32 := 1#32
  let v93 : BitVec 32 := Scalar.muli v92 c1_i32_53
  let v94 : BitVec 32 := Scalar.addi c0_i32_54 v93
  v94.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v95 : BitVec 32 := Scalar.addi v2 c4_i32_55
  let c8_i32_56 : BitVec 32 := 8#32
  let v96 : BitVec 32 := Scalar.remsi v95 c8_i32_56
  let c1_i32_58 : BitVec 32 := 1#32
  let v97 : BitVec 32 := Scalar.muli v96 c1_i32_58
  let v98 : BitVec 32 := Scalar.addi c0_i32_59 v97
  v98.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_60 : BitVec 32 := 5#32
  let v99 : BitVec 32 := Scalar.addi v2 c5_i32_60
  let c8_i32_61 : BitVec 32 := 8#32
  let v100 : BitVec 32 := Scalar.remsi v99 c8_i32_61
  let c1_i32_63 : BitVec 32 := 1#32
  let v101 : BitVec 32 := Scalar.muli v100 c1_i32_63
  let v102 : BitVec 32 := Scalar.addi c0_i32_64 v101
  v102.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v103 : BitVec 32 := Scalar.addi v2 c6_i32
  let c8_i32_65 : BitVec 32 := 8#32
  let v104 : BitVec 32 := Scalar.remsi v103 c8_i32_65
  let c1_i32_67 : BitVec 32 := 1#32
  let v105 : BitVec 32 := Scalar.muli v104 c1_i32_67
  let v106 : BitVec 32 := Scalar.addi c0_i32_68 v105
  v106.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_69 : BitVec 32 := 7#32
  let v107 : BitVec 32 := Scalar.addi v2 c7_i32_69
  let c8_i32_70 : BitVec 32 := 8#32
  let v108 : BitVec 32 := Scalar.remsi v107 c8_i32_70
  let c1_i32_72 : BitVec 32 := 1#32
  let v109 : BitVec 32 := Scalar.muli v108 c1_i32_72
  let v110 : BitVec 32 := Scalar.addi c0_i32_73 v109
  v110.toNat
def k0_cond2 (i : grid0.Coords) : BitVec 1 :=
  let arg1 : BitVec 32 := BitVec.ofNat 32 (i 1).val
  let c0_i32_2 : BitVec 32 := 0#32
  let v13 : BitVec 1 := Scalar.cmpi .eq arg1 c0_i32_2
  let arg0 : BitVec 32 := BitVec.ofNat 32 (i 0).val
  let c0_i32_3 : BitVec 32 := 0#32
  let v14 : BitVec 1 := Scalar.cmpi .eq arg0 c0_i32_3
  let v15 : BitVec 1 := Scalar.andi v13 v14
  let v16 : BitVec 32 := Scalar.extui v15
  let c0_i32_4 : BitVec 32 := 0#32
  let v17 : BitVec 1 := Scalar.cmpi .ne v16 c0_i32_4
  v17

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v78 : BitVec 32 := Scalar.subi v2 c1_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v78 : BitVec 32 := Scalar.subi v2 c1_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond3 (i : grid0.Coords) : BitVec 1 :=
  let arg1 : BitVec 32 := BitVec.ofNat 32 (i 1).val
  let c0_i32_5 : BitVec 32 := 0#32
  let v18 : BitVec 1 := Scalar.cmpi .eq arg1 c0_i32_5
  let arg0 : BitVec 32 := BitVec.ofNat 32 (i 0).val
  let c0_i32_6 : BitVec 32 := 0#32
  let v19 : BitVec 1 := Scalar.cmpi .eq arg0 c0_i32_6
  let v20 : BitVec 1 := Scalar.andi v18 v19
  let v21 : BitVec 32 := Scalar.extui v20
  let c0_i32_7 : BitVec 32 := 0#32
  let v22 : BitVec 1 := Scalar.cmpi .ne v21 c0_i32_7
  v22

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v78 : BitVec 32 := Scalar.subi v2 c2_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v78 : BitVec 32 := Scalar.subi v2 c2_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond4 (i : grid0.Coords) : BitVec 1 :=
  let arg1 : BitVec 32 := BitVec.ofNat 32 (i 1).val
  let c0_i32_8 : BitVec 32 := 0#32
  let v23 : BitVec 1 := Scalar.cmpi .eq arg1 c0_i32_8
  let arg0 : BitVec 32 := BitVec.ofNat 32 (i 0).val
  let c1_i32_9 : BitVec 32 := 1#32
  let v24 : BitVec 1 := Scalar.cmpi .eq arg0 c1_i32_9
  let v25 : BitVec 1 := Scalar.andi v23 v24
  let v26 : BitVec 32 := Scalar.extui v25
  let c0_i32_10 : BitVec 32 := 0#32
  let v27 : BitVec 1 := Scalar.cmpi .ne v26 c0_i32_10
  v27

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v78 : BitVec 32 := Scalar.subi v2 c3_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v78 : BitVec 32 := Scalar.subi v2 c3_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond5 (i : grid0.Coords) : BitVec 1 :=
  let arg1 : BitVec 32 := BitVec.ofNat 32 (i 1).val
  let c0_i32_11 : BitVec 32 := 0#32
  let v28 : BitVec 1 := Scalar.cmpi .eq arg1 c0_i32_11
  let arg0 : BitVec 32 := BitVec.ofNat 32 (i 0).val
  let c2_i32 : BitVec 32 := 2#32
  let v29 : BitVec 1 := Scalar.cmpi .eq arg0 c2_i32
  let v30 : BitVec 1 := Scalar.andi v28 v29
  let v31 : BitVec 32 := Scalar.extui v30
  let c0_i32_12 : BitVec 32 := 0#32
  let v32 : BitVec 1 := Scalar.cmpi .ne v31 c0_i32_12
  v32

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v78 : BitVec 32 := Scalar.subi v2 c4_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev11 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v78 : BitVec 32 := Scalar.subi v2 c4_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond6 (i : grid0.Coords) : BitVec 1 :=
  let arg1 : BitVec 32 := BitVec.ofNat 32 (i 1).val
  let c0_i32_13 : BitVec 32 := 0#32
  let v33 : BitVec 1 := Scalar.cmpi .eq arg1 c0_i32_13
  let arg0 : BitVec 32 := BitVec.ofNat 32 (i 0).val
  let c3_i32_14 : BitVec 32 := 3#32
  let v34 : BitVec 1 := Scalar.cmpi .eq arg0 c3_i32_14
  let v35 : BitVec 1 := Scalar.andi v33 v34
  let v36 : BitVec 32 := Scalar.extui v35
  let c0_i32_15 : BitVec 32 := 0#32
  let v37 : BitVec 1 := Scalar.cmpi .ne v36 c0_i32_15
  v37

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_37 : BitVec 32 := 5#32
  let v78 : BitVec 32 := Scalar.subi v2 c5_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev12 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_37 : BitVec 32 := 5#32
  let v78 : BitVec 32 := Scalar.subi v2 c5_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond7 (i : grid0.Coords) : BitVec 1 :=
  let arg1 : BitVec 32 := BitVec.ofNat 32 (i 1).val
  let c0_i32_16 : BitVec 32 := 0#32
  let v38 : BitVec 1 := Scalar.cmpi .eq arg1 c0_i32_16
  let arg0 : BitVec 32 := BitVec.ofNat 32 (i 0).val
  let c4_i32 : BitVec 32 := 4#32
  let v39 : BitVec 1 := Scalar.cmpi .eq arg0 c4_i32
  let v40 : BitVec 1 := Scalar.andi v38 v39
  let v41 : BitVec 32 := Scalar.extui v40
  let c0_i32_17 : BitVec 32 := 0#32
  let v42 : BitVec 1 := Scalar.cmpi .ne v41 c0_i32_17
  v42

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let c0_i32_43 : BitVec 32 := 0#32
  ![v2.toNat, 0, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v78 : BitVec 32 := Scalar.subi v2 c6_i32
  let c8_i32_37 : BitVec 32 := 8#32
  let v79 : BitVec 32 := Scalar.addi v78 c8_i32_37
  let c8_i32_38 : BitVec 32 := 8#32
  let v80 : BitVec 32 := Scalar.remsi v79 c8_i32_38
  let c1024_i32 : BitVec 32 := 1024#32
  let v81 : BitVec 32 := Scalar.muli v80 c1024_i32
  let c0_i32_44 : BitVec 32 := 0#32
  ![v81.toNat, 0]
def k0_dev13 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v78 : BitVec 32 := Scalar.subi v2 c6_i32
  let c8_i32_37 : BitVec 32 := 8#32
  let v79 : BitVec 32 := Scalar.addi v78 c8_i32_37
  let c8_i32_38 : BitVec 32 := 8#32
  let v80 : BitVec 32 := Scalar.remsi v79 c8_i32_38
  let c1_i32_40 : BitVec 32 := 1#32
  let v82 : BitVec 32 := Scalar.muli v80 c1_i32_40
  let v83 : BitVec 32 := Scalar.addi c0_i32_41 v82
  v83.toNat
def k0_cond8 (i : grid0.Coords) : BitVec 1 :=
  let arg1 : BitVec 32 := BitVec.ofNat 32 (i 1).val
  let c0_i32_18 : BitVec 32 := 0#32
  let v43 : BitVec 1 := Scalar.cmpi .eq arg1 c0_i32_18
  let arg0 : BitVec 32 := BitVec.ofNat 32 (i 0).val
  let c5_i32 : BitVec 32 := 5#32
  let v44 : BitVec 1 := Scalar.cmpi .eq arg0 c5_i32
  let v45 : BitVec 1 := Scalar.andi v43 v44
  let v46 : BitVec 32 := Scalar.extui v45
  let c0_i32_19 : BitVec 32 := 0#32
  let v47 : BitVec 1 := Scalar.cmpi .ne v46 c0_i32_19
  v47

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_43 : BitVec 32 := 0#32
  let c0_i32_44 : BitVec 32 := 0#32
  ![v2.toNat, 0, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_37 : BitVec 32 := 7#32
  let v78 : BitVec 32 := Scalar.subi v2 c7_i32_37
  let c8_i32_38 : BitVec 32 := 8#32
  let v79 : BitVec 32 := Scalar.addi v78 c8_i32_38
  let c8_i32_39 : BitVec 32 := 8#32
  let v80 : BitVec 32 := Scalar.remsi v79 c8_i32_39
  let c1024_i32 : BitVec 32 := 1024#32
  let v81 : BitVec 32 := Scalar.muli v80 c1024_i32
  let c0_i32_45 : BitVec 32 := 0#32
  ![v81.toNat, 0]
def k0_dev14 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_37 : BitVec 32 := 7#32
  let v78 : BitVec 32 := Scalar.subi v2 c7_i32_37
  let c8_i32_38 : BitVec 32 := 8#32
  let v79 : BitVec 32 := Scalar.addi v78 c8_i32_38
  let c8_i32_39 : BitVec 32 := 8#32
  let v80 : BitVec 32 := Scalar.remsi v79 c8_i32_39
  let c1_i32_41 : BitVec 32 := 1#32
  let v82 : BitVec 32 := Scalar.muli v80 c1_i32_41
  let v83 : BitVec 32 := Scalar.addi c0_i32_42 v82
  v83.toNat
def k0_cond9 (i : grid0.Coords) : BitVec 1 :=
  let arg1 : BitVec 32 := BitVec.ofNat 32 (i 1).val
  let c0_i32_20 : BitVec 32 := 0#32
  let v48 : BitVec 1 := Scalar.cmpi .eq arg1 c0_i32_20
  let arg0 : BitVec 32 := BitVec.ofNat 32 (i 0).val
  let c0_i32_21 : BitVec 32 := 0#32
  let v49 : BitVec 1 := Scalar.cmpi .eq arg0 c0_i32_21
  let v50 : BitVec 1 := Scalar.andi v48 v49
  let v51 : BitVec 32 := Scalar.extui v50
  let c0_i32_22 : BitVec 32 := 0#32
  let v52 : BitVec 1 := Scalar.cmpi .ne v51 c0_i32_22
  v52

def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  let c0_i32_38 : BitVec 32 := 0#32
  ![v2.toNat, 0, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v78 : BitVec 32 := Scalar.muli v2 c1024_i32
  let c0_i32_39 : BitVec 32 := 0#32
  ![v78.toNat, 0]
def k0_cond10 (i : grid0.Coords) : BitVec 1 :=
  let arg1 : BitVec 32 := BitVec.ofNat 32 (i 1).val
  let c0_i32_23 : BitVec 32 := 0#32
  let v53 : BitVec 1 := Scalar.cmpi .eq arg1 c0_i32_23
  let arg0 : BitVec 32 := BitVec.ofNat 32 (i 0).val
  let c0_i32_24 : BitVec 32 := 0#32
  let v54 : BitVec 1 := Scalar.cmpi .ne arg0 c0_i32_24
  let v55 : BitVec 1 := Scalar.andi v53 v54
  let v56 : BitVec 32 := Scalar.extui v55
  let c0_i32_25 : BitVec 32 := 0#32
  let v57 : BitVec 1 := Scalar.cmpi .ne v56 c0_i32_25
  v57

def k0_off28 (v4 : BitVec 32) : Fin 1 → Nat :=
  ![v4.toNat]

def k0_off29 (v4 : BitVec 32) : Fin 3 → Nat :=
  let c0_i32_40 : BitVec 32 := 0#32
  let c0_i32_41 : BitVec 32 := 0#32
  ![v4.toNat, 0, 0]
def k0_off30 (v4 : BitVec 32) : Fin 3 → Nat :=
  let v58 : Index := Scalar.indexCast v4
  let c0 : Index := 0#32
  let c0_26 : Index := 0#32
  ![v58.toNat, 0, 0]

def k0_chk1 (i : grid0.Coords) (v4 : BitVec 32) : Prop :=
  (∀ (k0_h10 : k0_cond10 i = 1#1), ∀ a, (k0_off28 v4) a + S1.size a ≤ S8.size a) ∧
  (∀ (k0_h10 : k0_cond10 i = 1#1), ∀ a, (k0_off29 v4) a + S1x1024x1024.size a ≤ S8x1024x1024.size a) ∧
  (∀ (k0_h10 : k0_cond10 i = 1#1), ∀ (hinb : ∀ a, (k0_off29 v4) a + S1x1024x1024.size a ≤ S8x1024x1024.size a), (Rect.unit (s := S8x1024x1024) (k0_off29 v4) S1x1024x1024.size hinb).WholeWords (EltTy.packing .bf16)) ∧
  (∀ a, (k0_off30 v4) a + S1x1024x1024.size a ≤ S8x1024x1024.size a)
theorem k0_off28_inb : ∀ (i : grid0.Coords) (v4 : BitVec 32) (k0_hw1 : k0_chk1 i v4), ∀ (k0_h10 : k0_cond10 i = 1#1), ∀ a, (k0_off28 v4) a + S1.size a ≤ S8.size a := fun i v4 k0_hw1 k0_h10 => k0_hw1.1 k0_h10
theorem k0_off29_inb : ∀ (i : grid0.Coords) (v4 : BitVec 32) (k0_hw1 : k0_chk1 i v4), ∀ (k0_h10 : k0_cond10 i = 1#1), ∀ a, (k0_off29 v4) a + S1x1024x1024.size a ≤ S8x1024x1024.size a := fun i v4 k0_hw1 k0_h10 => k0_hw1.2.1 k0_h10
theorem k0_off29_wordsbf16 : ∀ (i : grid0.Coords) (v4 : BitVec 32) (k0_hw1 : k0_chk1 i v4), ∀ (k0_h10 : k0_cond10 i = 1#1), (Rect.unit (s := S8x1024x1024) (k0_off29 v4) S1x1024x1024.size (k0_off29_inb i v4 k0_hw1 k0_h10)).WholeWords (EltTy.packing .bf16) := fun i v4 k0_hw1 k0_h10 => k0_hw1.2.2.1 k0_h10 (k0_off29_inb i v4 k0_hw1 k0_h10)
theorem k0_off30_inb : ∀ (i : grid0.Coords) (v4 : BitVec 32) (k0_hw1 : k0_chk1 i v4), ∀ a, (k0_off30 v4) a + S1x1024x1024.size a ≤ S8x1024x1024.size a := fun i v4 k0_hw1 => k0_hw1.2.2.2

def k0_cond11 (i : grid0.Coords) : BitVec 1 :=
  let arg0 : BitVec 32 := BitVec.ofNat 32 (i 0).val
  let c0_i32_29 : BitVec 32 := 0#32
  let v65 : BitVec 1 := Scalar.cmpi .eq arg0 c0_i32_29
  let v66 : BitVec 32 := Scalar.extui v65
  let c0_i32_30 : BitVec 32 := 0#32
  let v67 : BitVec 1 := Scalar.cmpi .ne v66 c0_i32_30
  v67

def k0_off31 (i : grid0.Coords) : Fin 3 → Nat :=
  let arg1 : BitVec 32 := BitVec.ofNat 32 (i 1).val
  let v78 : Index := Scalar.indexCast arg1
  let c0_37 : Index := 0#32
  let c0_38 : Index := 0#32
  ![v78.toNat, 0, 0]
def k0_cond12 (i : grid0.Coords) : BitVec 1 :=
  let arg0 : BitVec 32 := BitVec.ofNat 32 (i 0).val
  let c0_i32_31 : BitVec 32 := 0#32
  let v68 : BitVec 1 := Scalar.cmpi .sgt arg0 c0_i32_31
  let c7_i32_32 : BitVec 32 := 7#32
  let v69 : BitVec 1 := Scalar.cmpi .slt arg0 c7_i32_32
  let v70 : BitVec 1 := Scalar.andi v68 v69
  let v71 : BitVec 32 := Scalar.extui v70
  let c0_i32_33 : BitVec 32 := 0#32
  let v72 : BitVec 1 := Scalar.cmpi .ne v71 c0_i32_33
  v72

def k0_off32 (i : grid0.Coords) : Fin 3 → Nat :=
  let arg1 : BitVec 32 := BitVec.ofNat 32 (i 1).val
  let v78 : Index := Scalar.indexCast arg1
  let c0_37 : Index := 0#32
  let c0_38 : Index := 0#32
  ![v78.toNat, 0, 0]
def k0_cond13 (i : grid0.Coords) : BitVec 1 :=
  let arg0 : BitVec 32 := BitVec.ofNat 32 (i 0).val
  let c7_i32_34 : BitVec 32 := 7#32
  let v73 : BitVec 1 := Scalar.cmpi .eq arg0 c7_i32_34
  let v74 : BitVec 32 := Scalar.extui v73
  let c0_i32_35 : BitVec 32 := 0#32
  let v75 : BitVec 1 := Scalar.cmpi .ne v74 c0_i32_35
  v75

def k0_off33 (i : grid0.Coords) : Fin 3 → Nat :=
  let arg1 : BitVec 32 := BitVec.ofNat 32 (i 1).val
  let v78 : Index := Scalar.indexCast arg1
  let c0_37 : Index := 0#32
  let c0_38 : Index := 0#32
  ![v78.toNat, 0, 0]
def k0_cond14 (i : grid0.Coords) : BitVec 1 :=
  let arg0 : BitVec 32 := BitVec.ofNat 32 (i 0).val
  let c7_i32 : BitVec 32 := 7#32
  let v8 : BitVec 1 := Scalar.cmpi .eq arg0 c7_i32
  let arg1 : BitVec 32 := BitVec.ofNat 32 (i 1).val
  let c3_i32 : BitVec 32 := 3#32
  let v9 : BitVec 1 := Scalar.cmpi .eq arg1 c3_i32
  let v10 : BitVec 1 := Scalar.andi v8 v9
  let v76 : BitVec 32 := Scalar.extui v10
  let c0_i32_36 : BitVec 32 := 0#32
  let v77 : BitVec 1 := Scalar.cmpi .ne v76 c0_i32_36
  v77

def k0_off34 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : BitVec 32 := Scalar.subi v2 c1_i32_51
  let c8_i32_52 : BitVec 32 := 8#32
  let v91 : BitVec 32 := Scalar.addi v90 c8_i32_52
  let c8_i32_53 : BitVec 32 := 8#32
  let v92 : BitVec 32 := Scalar.remsi v91 c8_i32_53
  let c1024_i32 : BitVec 32 := 1024#32
  let v93 : BitVec 32 := Scalar.muli v92 c1024_i32
  let c0_i32_56 : BitVec 32 := 0#32
  ![v93.toNat, 0]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_57 : BitVec 32 := 0#32
  let c0_i32_58 : BitVec 32 := 0#32
  ![v2.toNat, 0, 0]
def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ideal.Protocol.lean ====
/-
The exchange protocol of the kernel: an all-to-all of row blocks over eight devices, each device's eight landing
slots filled by the eight devices, under the rounds library (`Lib/Rounds.lean`).

Device `c` holds `x16`, a column block of the operand, as eight row blocks of 1024 rows. It keeps row block `c`
(a local copy into its own slot `c`) and sends row block `d` to device `d`'s slot `c`; the send of OFFSET `o` goes to
device `c - o`. A handshake on the barrier semaphore comes first: every device signals every other, handing over
the landing slot the other one writes.

Here: the memrefs, the semaphore cells, the contents that travel, the schedule of duties, and the levels.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are named by an offset -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

/-- The device `o` places after `c`. -/
def nx (c : Dev nD) (o : Fin 8) : Dev nD := ⟨(c.val + o.val) % 8, Nat.mod_lt _ (by decide)⟩
/-- The device `o` places before `c`. -/
def pr (c : Dev nD) (o : Fin 8) : Dev nD := ⟨(c.val + 8 - o.val) % 8, Nat.mod_lt _ (by decide)⟩

theorem pr_nx : ∀ (c : Dev nD) (o : Fin 8), pr (nx c o) o = c := by decide
theorem nx_pr : ∀ (c : Dev nD) (o : Fin 8), nx (pr c o) o = c := by decide
theorem nx_zero : ∀ c : Dev nD, nx c 0 = c := by decide
theorem pr_zero : ∀ c : Dev nD, pr c 0 = c := by decide
theorem nx_ne : ∀ (c : Dev nD) (o : Fin 8), o ≠ 0 → nx c o ≠ c := by decide
theorem pr_ne : ∀ (c : Dev nD) (o : Fin 8), o ≠ 0 → pr c o ≠ c := by decide

/-- Stepping `o` places on, for a fixed device: a permutation of offsets and devices. -/
def around (c : Dev nD) : Fin 8 ≃ Dev nD :=
  ⟨nx c, fun d => ⟨(d.val + 8 - c.val) % 8, Nat.mod_lt _ (by decide)⟩, by revert c; decide, by revert c; decide⟩
/-- Stepping `o` places back. -/
def aroundBack (c : Dev nD) : Fin 8 ≃ Dev nD :=
  ⟨pr c, fun d => ⟨(c.val + 8 - d.val) % 8, Nat.mod_lt _ (by decide)⟩, by revert c; decide, by revert c; decide⟩
/-- Stepping a fixed offset on: a permutation of the devices. -/
def turn (o : Fin 8) : Dev nD ≃ Dev nD := ⟨fun c => nx c o, fun c => pr c o, fun c => pr_nx c o, fun c => nx_pr c o⟩

/-! ## The memrefs -/

abbrev tblM : Memref sig .tc .smem S8 .i32 := Memref.whole main_v10
abbrev xM : Memref sig .tc .hbm S8192x1024 .bf16 := Memref.whole main_v1
abbrev recvM : Memref sig .tc .vmem S8x1024x1024 .bf16 := Memref.whole cc0_scratch0
abbrev accM : Memref sig .tc .vmem S4x1024x1024 .f32 := Memref.whole cc0_scratch1

theorem rows_inb (r : Fin 8) : ∀ a, (![1024 * r.val, 0] : Fin 2 → Nat) a + S1024x1024.size a ≤ S8192x1024.size a := by
  revert r; decide
theorem slot_inb (k : Fin 8) : ∀ a, (![k.val, 0, 0] : Fin 3 → Nat) a + S1x1024x1024.size a ≤ S8x1024x1024.size a := by
  revert k; decide
theorem chunk_inb (n : Fin 4) : ∀ a, (![n.val, 0, 0] : Fin 3 → Nat) a + S1x1024x1024.size a ≤ S4x1024x1024.size a := by
  revert n; decide

abbrev rowsR (r : Fin 8) : Rect S8192x1024 := Rect.unit (s := S8192x1024) ![1024 * r.val, 0] S1024x1024.size (rows_inb r)
abbrev slotR (k : Fin 8) : Rect S8x1024x1024 := Rect.unit (s := S8x1024x1024) ![k.val, 0, 0] S1x1024x1024.size (slot_inb k)
abbrev chunkR (n : Fin 4) : Rect S4x1024x1024 := Rect.unit (s := S4x1024x1024) ![n.val, 0, 0] S1x1024x1024.size (chunk_inb n)

/-- Row block `r` of `x16`. -/
abbrev rowsM (r : Fin 8) : Memref sig .tc .hbm S1024x1024 .bf16 := xM.slice (rowsR r) (fun _ => rfl)
/-- Landing slot `k`, as a transfer names it. -/
abbrev slotM (k : Fin 8) : Memref sig .tc .vmem S1024x1024 .bf16 :=
  (recvM.slice (slotR k) (fun _ => rfl)).squeeze S1024x1024 squeezes_S1x1024x1024_S1024x1024

/-- A printed slice of `x16` whose offsets are those of row block `r`. -/
theorem rows_of (r : Fin 8) {off : Fin 2 → Nat} (h : ∀ a, off a + S1024x1024.size a ≤ S8192x1024.size a) (e : off = ![1024 * r.val, 0]) :
    xM.slice (Rect.unit (s := S8192x1024) off S1024x1024.size h) (fun _ => rfl) = rowsM r := by subst e; rfl
/-- A printed slice of the landing buffer whose offsets are those of slot `k`. -/
theorem slot_of (k : Fin 8) {off : Fin 3 → Nat} (h : ∀ a, off a + S1x1024x1024.size a ≤ S8x1024x1024.size a) (e : off = ![k.val, 0, 0]) :
    (recvM.slice (Rect.unit (s := S8x1024x1024) off S1x1024x1024.size h) (fun _ => rfl)).squeeze S1024x1024 squeezes_S1x1024x1024_S1024x1024
      = slotM k := by subst e; rfl
/-- A printed rectangle of the landing buffer at slot `k`. -/
theorem slotR_of (k : Fin 8) {off : Fin 3 → Nat} (h : ∀ a, off a + S1x1024x1024.size a ≤ S8x1024x1024.size a) (e : off = ![k.val, 0, 0]) :
    Rect.unit (s := S8x1024x1024) off S1x1024x1024.size h = slotR k := by subst e; rfl
/-- A printed rectangle of the accumulator at chunk `n`. -/
theorem chunkR_of (n : Fin 4) {off : Fin 3 → Nat} (h : ∀ a, off a + S1x1024x1024.size a ≤ S4x1024x1024.size a) (e : off = ![n.val, 0, 0]) :
    Rect.unit (s := S4x1024x1024) off S1x1024x1024.size h = chunkR n := by subst e; rfl

/-! ## The semaphores and the cells -/

abbrev barS : Sem sig := barrier0
/-- The departure semaphore of offset `o`. -/
def sendD (o : Fin 8) : DmaSem sig := ⟨3 + o.val, by show 3 + o.val < 20; omega⟩
/-- The arrival semaphore of slot `k`. -/
def recvD (k : Fin 8) : DmaSem sig := ⟨11 + k.val, by show 11 + k.val < 20; omega⟩
/-- The local copy's semaphore. -/
def locD : DmaSem sig := ⟨19, by show 19 < 20; omega⟩

theorem inb8 (k : Fin 8) : ∀ a, (![k.val] : Fin 1 → Nat) a + S1.size a ≤ S8.size a := by revert k; decide

theorem sendD_eq (o : Fin 8) : ((cc0_scratch2.slice (Rect.unit (s := S8) ![o.val] S1.size (inb8 o))).squeeze S_ squeezes_S1_S_).sem = sendD o := by
  revert o; decide
theorem recvD_eq (k : Fin 8) : ((cc0_scratch3.slice (Rect.unit (s := S8) ![k.val] S1.size (inb8 k))).squeeze S_ squeezes_S1_S_).sem = recvD k := by
  revert k; decide
theorem locD_eq : cc0_scratch4.sem = locD := by decide
theorem barS_eq : (SemArray.scalar (sig.barrier 0 rfl) : Sems sig S_).sem = barS := by decide

/-- A printed departure semaphore at offset `o`. -/
theorem send_of (o : Fin 8) {off : Fin 1 → Nat} (h : ∀ a, off a + S1.size a ≤ S8.size a) (e : off = ![o.val]) :
    ((cc0_scratch2.slice (Rect.unit (s := S8) off S1.size h)).squeeze S_ squeezes_S1_S_).sem = sendD o := by subst e; exact sendD_eq o
/-- A printed arrival semaphore at slot `k`. -/
theorem recv_of (k : Fin 8) {off : Fin 1 → Nat} (h : ∀ a, off a + S1.size a ≤ S8.size a) (e : off = ![k.val]) :
    ((cc0_scratch3.slice (Rect.unit (s := S8) off S1.size h)).squeeze S_ squeezes_S1_S_).sem = recvD k := by subst e; exact recvD_eq k

abbrev barC (c : Dev nD) : GSem nD τ sig := ((c : Thread nD τ), .reg barS)
abbrev sendC (c : Dev nD) (o : Fin 8) : GSem nD τ sig := ((c : Thread nD τ), .dma (sendD o))
abbrev recvC (c : Dev nD) (k : Fin 8) : GSem nD τ sig := ((c : Thread nD τ), .dma (recvD k))
abbrev locC (c : Dev nD) : GSem nD τ sig := ((c : Thread nD τ), .dma locD)

/-- The kernel's own seventeen DMA semaphores: the departures, the arrivals, the local copy's. -/
abbrev OwnK : Type := (Fin 8 ⊕ Fin 8) ⊕ Unit
abbrev osem : OwnK → SemLoc sig
  | .inl (.inl o) => .dma (sendD o)
  | .inl (.inr k) => .dma (recvD k)
  | .inr _ => .dma locD
abbrev ownC (c : Dev nD) (k : OwnK) : GSem nD τ sig := ((c : Thread nD τ), osem k)

/-- What one transfer of a 1024 × 1024 block of bfloat16 credits. -/
@[irreducible] def N : ℕ := (slotM 0).view.dmaCredit
theorem N_pos : 0 < N := by unfold N; exact View.dmaCredit_pos _ (by decide)
theorem credit_slot (k : Fin 8) : (slotM k).view.dmaCredit = N := by unfold N; rfl
theorem credit_rows (r : Fin 8) : (rowsM r).view.dmaCredit = N := by unfold N; rfl

/-! ## What the buffers hold -/

/-- What each device's launch gives the kernel: `x16`; the block of `w` that step `j` hands the body for column chunk
    `n`; and the table of the peers' order, whose word `j` is the device `j` places on. -/
structure Inputs (F : FTy → Type) [FloatOps F] where
  x : Dev nD → S8192x1024.Idx → Elt F .bf16
  w : Dev nD → Fin 8 → Fin 4 → S1024x1024.Idx → Elt F .f32
  tbl : Dev nD → S8.Idx → BitVec 32

variable (I : Inputs F)

/-- Row block `d` of device `c`'s `x16`: what device `d`'s slot `c` comes to hold. -/
def xblk (c d : Dev nD) : S1024x1024.Idx → Elt F .bf16 := (rowsM d).view.read (Elt F) (I.x c)

/-- Row block `r` of `x16` held on device `c`. -/
def rowPts (c : Dev nD) (r : Fin 8) : sProp 𝕄 :=
  (rowsM r).view.loc (c : Thread nD τ) ↦[(rowsM r).view.set]{fullShare} I.x c
/-- Slot `k` of device `c` held at contents that read `X`. -/
def slotPts (c : Dev nD) (k : Fin 8) (X : S1024x1024.Idx → Elt F .bf16) : sProp 𝕄 := owns (c : Thread nD τ) (slotM k) fullShare X
/-- Slot `k` of device `c` held, whatever it holds. -/
def slotAny (c : Dev nD) (k : Fin 8) : sProp 𝕄 :=
  iprop(∃ f : Buf (Elt F) ((slotM k).view.loc (c : Thread nD τ)), (slotM k).view.loc (c : Thread nD τ) ↦[(slotM k).view.set]{fullShare} f)

instance rowPts_storable (c : Dev nD) (r : Fin 8) : BI.Storable (upEmb : UEmb _ 𝕄) (rowPts I c r) := by unfold rowPts; infer_instance
instance slotPts_storable (c : Dev nD) (k : Fin 8) (X) : BI.Storable (upEmb : UEmb _ 𝕄) (slotPts (F := F) c k X) := by unfold slotPts; infer_instance
instance slotAny_storable (c : Dev nD) (k : Fin 8) : BI.Storable (upEmb : UEmb _ 𝕄) (slotAny (F := F) c k) := by unfold slotAny; infer_instance

theorem slotAny_of (c : Dev nD) (k : Fin 8) (X) : slotPts (F := F) c k X ⊢ slotAny c k := by
  unfold slotPts owns slotAny; iintro ⟨%f, -, H⟩; iexists f; iexact H

/-! ## The schedule -/

/-- Device `pr d o`'s signal hands `d` the slot `d` writes there, and that its arrival cell is open. -/
def barPay (d : Dev nD) (o : Fin 8) : sProp 𝕄 := iprop(slotAny (pr d o) d ∗ reached ER (recvC (pr d o) d) 0)
/-- A landing in slot `k` of device `d`: the slot holding device `k`'s row block `d`. -/
def recvPay (d : Dev nD) (k : Fin 8) : sProp 𝕄 := slotPts d k (xblk I k d)
/-- A departure of offset `o`: the row block sent, back. -/
def sendPay (c : Dev nD) (o : Fin 8) : sProp 𝕄 := rowPts I c (pr c o)
/-- The local copy's completion: its own slot filled, its own row block back. -/
def locPay (c : Dev nD) : sProp 𝕄 := iprop(slotPts c c (xblk I c c) ∗ rowPts I c c)

def dutiesOf (g : GSem nD τ sig) : Finset (Fin 8) :=
  if g.1.2 = .tc then
    match g.2 with
    | .reg s => if s = barS then Finset.univ.erase 0 else ∅
    | .dma s => if (4 ≤ s.val ∧ s.val < 11) ∨ (11 ≤ s.val ∧ s.val < 19 ∧ s.val ≠ 11 + g.1.1.val) ∨ s.val = 19 then {0} else ∅
  else ∅

def payloadOf (g : GSem nD τ sig) (o : Fin 8) : sProp 𝕄 :=
  match g.2 with
  | .reg _ => barPay g.1.1 o
  | .dma s =>
    if h : 3 ≤ s.val ∧ s.val < 11 then sendPay I g.1.1 ⟨s.val - 3, by omega⟩
    else if h : 11 ≤ s.val ∧ s.val < 19 then recvPay I g.1.1 ⟨s.val - 11, by omega⟩
    else locPay I g.1.1

/-- One round on every cell: a barrier cell has one duty of one unit per offset, an arrival, departure or local-copy
    cell the duty `0` of one block's credit. -/
def Rd : Rounds.Schedule (GSem nD τ sig) (Fin 8) 𝕄 where
  duties g r := if r = 0 then dutiesOf g else ∅
  unitless _ := False
  amount g _ _ := match g.2 with | .reg _ => 1 | .dma _ => N
  payload g _ o := payloadOf I g o
  amount_pos g _ _ _ := by rcases g with ⟨t, s | s⟩; exacts [Nat.one_pos, N_pos]

instance Rd_storable (g : GSem nD τ sig) (r : ℕ) (d : Fin 8) : BI.Storable (upEmb : UEmb _ 𝕄) ((Rd I).payload g r d) := by
  show BI.Storable upEmb (payloadOf I g d)
  rcases g with ⟨t, s | s⟩
  · show BI.Storable upEmb (barPay t.1 d); unfold barPay; infer_instance
  · show BI.Storable upEmb (if h : 3 ≤ s.val ∧ s.val < 11 then sendPay I t.1 ⟨s.val - 3, by omega⟩
      else if h : 11 ≤ s.val ∧ s.val < 19 then recvPay I t.1 ⟨s.val - 11, by omega⟩ else locPay I t.1)
    split
    · unfold sendPay; infer_instance
    split
    · unfold recvPay; infer_instance
    · unfold locPay; infer_instance

section Tables
variable (c : Dev nD)

theorem duties_later (g : GSem nD τ sig) : ∀ r, 1 ≤ r → (Rd I).duties g r = ∅ := fun r hr => if_neg (by omega)

theorem duties_bar : (Rd I).duties (barC c) 0 = Finset.univ.erase 0 := rfl
theorem duties_send {o : Fin 8} (ho : o ≠ 0) : (Rd I).duties (sendC c o) 0 = {0} := by
  show dutiesOf (sendC c o) = {0}; revert c o; decide
theorem duties_send0 (r : ℕ) : (Rd I).duties (sendC c 0) r = ∅ := by
  show (if r = 0 then dutiesOf (sendC c 0) else ∅) = ∅
  split
  · revert c; decide
  · rfl
theorem duties_recv {k : Fin 8} (hk : k ≠ c) : (Rd I).duties (recvC c k) 0 = {0} := by
  show dutiesOf (recvC c k) = {0}; revert c k; decide
theorem duties_recvOwn (r : ℕ) : (Rd I).duties (recvC c c) r = ∅ := by
  show (if r = 0 then dutiesOf (recvC c c) else ∅) = ∅
  split
  · revert c; decide
  · rfl
theorem duties_loc : (Rd I).duties (locC c) 0 = {0} := by show dutiesOf (locC c) = {0}; revert c; decide

theorem amount_bar (d : Fin 8) : (Rd I).amount (barC c) 0 d = 1 := rfl
theorem amount_dma (s : DmaSem sig) (d : Fin 8) : (Rd I).amount ((c : Thread nD τ), .dma s) 0 d = N := rfl

theorem payload_bar (o : Fin 8) : (Rd I).payload (barC c) 0 o = barPay c o := rfl
theorem payload_send (o d : Fin 8) : (Rd I).payload (sendC c o) 0 d = sendPay I c o := by
  show payloadOf I (sendC c o) d = _
  unfold payloadOf
  dsimp only
  rw [dif_pos ⟨by unfold sendD; dsimp only; omega, by unfold sendD; dsimp only; omega⟩]
  congr 1; exact Fin.ext (by unfold sendD; dsimp only; omega)
theorem payload_recv (k d : Fin 8) : (Rd I).payload (recvC c k) 0 d = recvPay I c k := by
  show payloadOf I (recvC c k) d = _
  unfold payloadOf
  dsimp only
  rw [dif_neg (fun h => by have := h.2; unfold recvD at this; dsimp only at this; omega),
    dif_pos ⟨by unfold recvD; dsimp only; omega, by unfold recvD; dsimp only; omega⟩]
  congr 1; exact Fin.ext (by unfold recvD; dsimp only; omega)
theorem payload_loc (d : Fin 8) : (Rd I).payload (locC c) 0 d = locPay I c := by
  show payloadOf I (locC c) d = _
  unfold payloadOf
  dsimp only
  rw [dif_neg (fun h => by have := h.2; unfold locD at this; dsimp only at this; omega),
    dif_neg (fun h => by have := h.2; unfold locD at this; dsimp only at this; omega)]

theorem expect_bar : (Rd I).expect (barC c) 0 = 7 := by
  unfold Schedule.expect Schedule.amountOf
  rw [duties_bar, Finset.sum_congr rfl fun d _ => amount_bar I c d]; decide
theorem expect_dma {s : DmaSem sig} (h : (Rd I).duties ((c : Thread nD τ), .dma s) 0 = {0}) :
    (Rd I).expect ((c : Thread nD τ), .dma s) 0 = N := by
  unfold Schedule.expect Schedule.amountOf; rw [h, Finset.sum_singleton, amount_dma]

theorem rest_bar : bigSep ((Rd I).duties (barC c) 0 \ ∅) (fun d => (Rd I).payload (barC c) 0 d) = bigSep (Finset.univ.erase 0) (barPay (F := F) c) := by
  rw [Finset.sdiff_empty, duties_bar]; rfl
theorem rest_send {o : Fin 8} (ho : o ≠ 0) :
    bigSep ((Rd I).duties (sendC c o) 0 \ ∅) (fun d => (Rd I).payload (sendC c o) 0 d) = sendPay I c o := by
  rw [Finset.sdiff_empty, duties_send I c ho, bigSep_singleton, payload_send]
theorem rest_recv {k : Fin 8} (hk : k ≠ c) :
    bigSep ((Rd I).duties (recvC c k) 0 \ ∅) (fun d => (Rd I).payload (recvC c k) 0 d) = recvPay I c k := by
  rw [Finset.sdiff_empty, duties_recv I c hk, bigSep_singleton, payload_recv]
theorem rest_loc : bigSep ((Rd I).duties (locC c) 0 \ ∅) (fun d => (Rd I).payload (locC c) 0 d) = locPay I c := by
  rw [Finset.sdiff_empty, duties_loc, bigSep_singleton, payload_loc]

end Tables

/-! ## What a device owes, and the levels -/

/-- Offset `o`'s units: device `c`'s landing at device `pr c o`. -/
def oweRecv (c : Dev nD) (o : Fin 8) : CellTallies nD τ sig Unit := tallyAt (recvC (pr c o) c) () N
/-- One unit of the barrier of the device `o` places on. -/
def oweBar (c : Dev nD) (o : Fin 8) : CellTallies nD τ sig Unit := tallyAt (barC (nx c o)) () 1

/-- The sum of `f` over the offsets above `n`. -/
def above (n : ℕ) (f : Fin 8 → CellTallies nD τ sig Unit) : CellTallies nD τ sig Unit := ∑ o : Fin 8 with n < o.val, f o

theorem above_succ (n : ℕ) (o : Fin 8) (h : o.val = n + 1) (f : Fin 8 → CellTallies nD τ sig Unit) : above n f = above (n + 1) f + f o := by
  unfold above
  rw [show (Finset.univ.filter fun o' : Fin 8 => n < o'.val) = insert o (Finset.univ.filter fun o' : Fin 8 => n + 1 < o'.val) from by
    ext o'; simp only [Finset.mem_filter, Finset.mem_univ, true_and, Finset.mem_insert, Fin.ext_iff]; omega]
  rw [Finset.sum_insert (by simp only [Finset.mem_filter, Finset.mem_univ, true_and]; omega), add_comm]
theorem above_seven (f : Fin 8 → CellTallies nD τ sig Unit) (n : ℕ) (hn : 7 ≤ n) : above n f = 0 := by
  unfold above
  rw [Finset.filter_eq_empty_iff.mpr fun o _ => by omega, Finset.sum_empty]

/-- After the sends of the offsets up to `n` (the handshake's signals all given): the landings still due. -/
def owed (c : Dev nD) (n : ℕ) : CellTallies nD τ sig Unit := above n (oweRecv c)
/-- During the handshake, the signals of the offsets up to `s` given. -/
def owedBar (c : Dev nD) (s : ℕ) : CellTallies nD τ sig Unit := owed c 0 + above s (oweBar c)

theorem owed_succ (c : Dev nD) (n : ℕ) (o : Fin 8) (h : o.val = n + 1) : owed c n = owed c (n + 1) + tallyAt (recvC (pr c o) c) () N :=
  above_succ n o h _
theorem owed_seven (c : Dev nD) (n : ℕ) (hn : 7 ≤ n) : owed c n = 0 := above_seven _ n hn
theorem owedBar_succ (c : Dev nD) (s : ℕ) (o : Fin 8) (h : o.val = s + 1) : owedBar c s = owedBar c (s + 1) + tallyAt (barC (nx c o)) () 1 := by
  unfold owedBar; rw [above_succ s o h, ← add_assoc]; rfl
theorem owedBar_seven (c : Dev nD) : owedBar c 7 = owed c 0 := by unfold owedBar; rw [above_seven _ 7 le_rfl, add_zero]

/-- Where an `above` sum is positive, one of its terms is. -/
theorem above_pos {n : ℕ} {f : Fin 8 → CellTallies nD τ sig Unit} {g : GSem nD τ sig} {u : Unit} (h : 0 < above n f g u) :
    ∃ o : Fin 8, n < o.val ∧ 0 < f o g u := by
  unfold above at h
  rw [Finset.sum_apply, Finsupp.finset_sum_apply] at h
  obtain ⟨o, ho, hp⟩ := Finset.exists_ne_zero_of_sum_ne_zero (Nat.pos_iff_ne_zero.mp h)
  exact ⟨o, (Finset.mem_filter.mp ho).2, Nat.pos_of_ne_zero hp⟩

theorem tally_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

theorem owed_pos {c : Dev nD} {n : ℕ} {g : GSem nD τ sig} {u : Unit} (h : 0 < owed c n g u) :
    ∃ o : Fin 8, n < o.val ∧ g = recvC (pr c o) c := by
  obtain ⟨o, ho, hp⟩ := above_pos h
  exact ⟨o, ho, tally_pos hp⟩
theorem owedBar_pos {c : Dev nD} {s : ℕ} {g : GSem nD τ sig} {u : Unit} (h : 0 < owedBar c s g u) :
    (∃ o : Fin 8, 0 < o.val ∧ g = recvC (pr c o) c) ∨ (∃ o : Fin 8, s < o.val ∧ g = barC (nx c o)) := by
  unfold owedBar at h
  rw [Pi.add_apply, Finsupp.add_apply] at h
  rcases Nat.eq_zero_or_pos (owed c 0 g u) with h0 | h0
  · rw [h0, Nat.zero_add] at h
    obtain ⟨o, ho, hp⟩ := above_pos h
    exact .inr ⟨o, ho, tally_pos hp⟩
  · exact .inl (owed_pos h0)

def L (g : GSem nD τ sig) : Finset Unit := if g.1.2 = .tc then {()} else ∅
/-- Staging, departure and local-copy cells at 0, barrier cells at 1, the arrival cell of slot `k` on device `d` above,
    at the offset of the send that fills it. -/
def lv (g : GSem nD τ sig) (_ : Unit) : ℕ :=
  match g.2 with
  | .reg _ => 1
  | .dma s => if 11 ≤ s.val ∧ s.val < 19 then 1 + (s.val - 11 + 8 - g.1.1.val) % 8 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_recv : ∀ (c : Dev nD) (o : Fin 8), lv (recvC (pr c o) c) () = 1 + o.val := by decide
theorem lv_recv' : ∀ (c : Dev nD) (o : Fin 8), lv (recvC c (nx c o)) () = 1 + o.val := by decide
theorem lv_low (c : Dev nD) (s : DmaSem sig) (h : s.val < 11 ∨ s.val = 19) : lv ((c : Thread nD τ), .dma s) () = 0 :=
  if_neg (by omega)

/-- A wait on a cell whose level is at most `l`, everything owed above `l`. -/
theorem mayWait_of (c : Dev nD) (sm : SemLoc sig) (l : ℕ) (O : CellTallies nD τ sig Unit) (hl : lv ((c : Thread nD τ), sm) () ≤ l)
    (hO : ∀ g u, 0 < O g u → g.1.2 = .tc ∧ l < lv g ()) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

theorem mayWait_low (c : Dev nD) (s : DmaSem sig) (h : s.val < 11 ∨ s.val = 19) (n : ℕ) :
    (levAts L lv : sProp 𝕄) ⊢ MayWait (c : Thread nD τ) (.dma s) () (owed c n) :=
  mayWait_of c _ 0 _ (lv_low c s h).le fun g u hg => by
    obtain ⟨o, ho, rfl⟩ := owed_pos hg
    exact ⟨rfl, by rw [lv_recv]; omega⟩
theorem mayWait_lowBar (c : Dev nD) (s : DmaSem sig) (h : s.val < 11 ∨ s.val = 19) (n : ℕ) :
    (levAts L lv : sProp 𝕄) ⊢ MayWait (c : Thread nD τ) (.dma s) () (owedBar c n) :=
  mayWait_of c _ 0 _ (lv_low c s h).le fun g u hg => by
    rcases owedBar_pos hg with ⟨o, ho, rfl⟩ | ⟨o, ho, rfl⟩
    · exact ⟨rfl, by rw [lv_recv]; omega⟩
    · exact ⟨rfl, by rw [lv_bar]; omega⟩
theorem mayWait_bar (c : Dev nD) : (levAts L lv : sProp 𝕄) ⊢ MayWait (c : Thread nD τ) (.reg barS) () (owed c 0) :=
  mayWait_of c _ 1 _ (lv_bar c).le fun g u hg => by
    obtain ⟨o, ho, rfl⟩ := owed_pos hg
    exact ⟨rfl, by rw [lv_recv]; omega⟩
theorem mayWait_recv (c : Dev nD) (o : Fin 8) (n : ℕ) (h : o.val ≤ n) :
    (levAts L lv : sProp 𝕄) ⊢ MayWait (c : Thread nD τ) (.dma (recvD (nx c o))) () (owed c n) :=
  mayWait_of c _ (1 + o.val) _ (lv_recv' c o).le fun g u hg => by
    obtain ⟨o', ho, rfl⟩ := owed_pos hg
    exact ⟨rfl, by rw [lv_recv]; omega⟩

end Cert.KernelIdeal.Exchange

end
-- ==== Proof.Ideal.Steps.lean ====
/-
The protocol's state on one device and the rules that move it: the handshake's signals, the sends, and the waits, each
as one rule over the printed operation at any memrefs and semaphores equal to the protocol's.
-/
module

public import proofs.«01_k».proof.Proof.Ideal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F)

abbrev 𝒱₀ : Variants := Variants.none

/-- The offsets other than 0: the seven peers. -/
abbrev offs : Finset (Fin 8) := Finset.univ.erase 0

theorem mem_offs {o : Fin 8} (h : o ≠ 0) : o ∈ offs := Finset.mem_erase.mpr ⟨h, Finset.mem_univ _⟩
theorem ne_of_offs {o : Fin 8} (h : o ∈ offs) : o ≠ 0 := (Finset.mem_erase.mp h).1

/-- One member of a family taken out, a changed one put back, the others unchanged. -/
theorem bigSep_swap {ι : Type} [DecidableEq ι] {s : Finset ι} {i : ι} (hi : i ∈ s) {Φ Ψ : ι → sProp 𝕄} (h : ∀ j ∈ s, j ≠ i → Φ j = Ψ j) :
    bigSep s Φ ⊢ iprop(Φ i ∗ (Ψ i -∗ bigSep s Ψ)) := by
  have e1 : bigSep s Φ = iprop(Φ i ∗ bigSep (s.erase i) Φ) := bigSep_erase hi
  have e2 : bigSep s Ψ = iprop(Ψ i ∗ bigSep (s.erase i) Ψ) := bigSep_erase hi
  rw [e1, e2, bigSep_congr fun j hj => h j (Finset.mem_of_mem_erase hj) (Finset.ne_of_mem_erase hj)]
  iintro ⟨H, Hr⟩
  isplitl [H]; · iexact H
  iintro H'
  isplitl [H'] <;> iassumption

/-! ## The cells and their invariants -/

/-- The barrier cells. -/
def barCells : Finset (GSem nD τ sig) := Finset.univ.image barC
/-- The kernel's own cells. -/
def ownCells : Finset (GSem nD τ sig) := Finset.univ.image fun x : Dev nD × OwnK => ownC x.1 x.2

theorem barC_mem (c : Dev nD) : barC c ∈ barCells ∪ ownCells :=
  Finset.mem_union_left _ (Finset.mem_image_of_mem _ (Finset.mem_univ c))
theorem ownC_mem (c : Dev nD) (k : OwnK) : ownC c k ∈ barCells ∪ ownCells :=
  Finset.mem_union_right _ (Finset.mem_image_of_mem (fun x : Dev nD × OwnK => ownC x.1 x.2) (Finset.mem_univ (c, k)))

/-- Every cell's invariant, cell `g` under the name `κ g`. -/
def Inv (κ : GSem nD τ sig → ℕ) : sProp 𝕄 := bigSep (barCells ∪ ownCells) fun g => cellInv ER (Rd I) (κ g) g

instance Inv_persistent (κ : GSem nD τ sig → ℕ) : BI.Persistent (Inv I κ) := by unfold Inv; infer_instance

variable (κ : GSem nD τ sig → ℕ)

theorem inv_bar (c : Dev nD) : Inv I κ ⊢ cellInv ER (Rd I) (κ (barC c)) (barC c) := bigSep_elim (barC_mem c)
theorem inv_send (c : Dev nD) (o : Fin 8) : Inv I κ ⊢ cellInv ER (Rd I) (κ (sendC c o)) (sendC c o) := bigSep_elim (ownC_mem c (.inl (.inl o)))
theorem inv_recv (c : Dev nD) (k : Fin 8) : Inv I κ ⊢ cellInv ER (Rd I) (κ (recvC c k)) (recvC c k) := bigSep_elim (ownC_mem c (.inl (.inr k)))
theorem inv_loc (c : Dev nD) : Inv I κ ⊢ cellInv ER (Rd I) (κ (locC c)) (locC c) := bigSep_elim (ownC_mem c (.inr ()))

/-! ## The state -/

/-- The core owing `O`, whatever its waits have recorded. -/
def owesAny (c : Dev nD) (O : CellTallies nD τ sig Unit) : sProp 𝕄 := iprop(∃ W, owes (c : Thread nD τ) O W)

/-- Before the signal of offset `o`: the peer's barrier cell's duty, and the slot it is to write. -/
def sigSt (c : Dev nD) (o : Fin 8) : sProp 𝕄 :=
  iprop(reached ER (barC (nx c o)) 0 ∗ dutyTok ER (barC (nx c o)) 0 o ∗ slotAny c (nx c o) ∗ reached ER (recvC c (nx c o)) 0)
/-- The signals of the offsets above `s` still to give. -/
def Sig (c : Dev nD) (s : ℕ) : sProp 𝕄 := bigSep offs fun o => if o.val ≤ s then BI.emp else sigSt c o

/-- Of a send not made yet, what device `c` holds from the start: the row block, and the two duties. -/
def pend0 (c : Dev nD) (o : Fin 8) : sProp 𝕄 :=
  iprop(rowPts I c (pr c o) ∗ dutyTok ER (sendC c o) 0 0 ∗ dutyTok ER (recvC (pr c o) c) 0 0 ∗ reached ER (sendC c o) 0 ∗ atPos ER (sendC c o) 0 ∅ 0)
/-- And with the landing slot the peer handed over. -/
def pend (c : Dev nD) (o : Fin 8) : sProp 𝕄 := iprop(pend0 I c o ∗ slotAny (pr c o) c ∗ reached ER (recvC (pr c o) c) 0)
/-- A send made: the credit for its departure. -/
def sent (c : Dev nD) (o : Fin 8) : sProp 𝕄 := iprop(cred (tallyAt (sendC c o) () N) ∗ atPos ER (sendC c o) 0 ∅ 0)
/-- The sends of the offsets up to `n` made. -/
def Out (c : Dev nD) (n : ℕ) : sProp 𝕄 := bigSep offs fun o => if o.val ≤ n then sent c o else pend I c o

/-- An arrival awaited. -/
def expecting (c : Dev nD) (o : Fin 8) : sProp 𝕄 := iprop(cred (tallyAt (recvC c (nx c o)) () N) ∗ atPos ER (recvC c (nx c o)) 0 ∅ 0)
/-- An arrival in: slot `nx c o` holds that device's row block `c`. -/
def arrived (c : Dev nD) (o : Fin 8) : sProp 𝕄 := iprop(slotPts c (nx c o) (xblk I (nx c o) c) ∗ atPos ER (recvC c (nx c o)) 1 ∅ 0)
/-- The arrivals of the offsets below `n` in. -/
def In (c : Dev nD) (n : ℕ) : sProp 𝕄 := bigSep offs fun o => if o.val < n then arrived I c o else expecting c o

/-- The departures of the offsets up to `s` waited for. -/
def Left (c : Dev nD) (s : ℕ) : sProp 𝕄 := bigSep offs fun o => if o.val ≤ s then atPos ER (sendC c o) 1 ∅ 0 else sent c o

/-- The local copy before it is made, in flight, and done. -/
def loc0 (c : Dev nD) : sProp 𝕄 := iprop(rowPts I c c ∗ slotAny c c ∗ dutyTok ER (locC c) 0 0 ∗ reached ER (locC c) 0 ∗ atPos ER (locC c) 0 ∅ 0)
def loc1 (c : Dev nD) : sProp 𝕄 := iprop(cred (tallyAt (locC c) () N) ∗ atPos ER (locC c) 0 ∅ 0)
def loc2 (c : Dev nD) : sProp 𝕄 := iprop(slotPts c c (xblk I c c) ∗ atPos ER (locC c) 1 ∅ 0)

/-! ## The rules -/

theorem amount_slot (k : Fin 8) (s : DmaSem sig) : (slotM k).view.amount (.dma s) = N := credit_slot k

theorem routes_tc (c d : Dev nD) : τ.routes (c : Thread nD τ) (d : Thread nD τ) = true := by routes

/-- What a transfer from row block `c` of device `d` leaves in slot `k` of device `e`. -/
theorem slot_written (d e : Dev nD) (k c : Fin 8) (f : Buf (Elt F) ((slotM k).view.loc (e : Thread nD τ))) :
    iprop((slotM k).view.loc (e : Thread nD τ) ↦[(slotM k).view.set]{fullShare}
        ((slotM k).view.write (Elt F) f ((rowsM c).view.read (Elt F) (I.x d)) Finset.univ))
      ⊢ slotPts (F := F) e k (xblk I d c) := by
  unfold slotPts owns
  iintro H
  iexists _; isplitr [H]
  rotate_left
  · iexact H
  · ipureintro; rw [View.read_write_univ]; rfl

/-- The local copy, of the protocol's own memrefs. -/
theorem wp_local_own (c : Dev nD) (fd : Buf (Elt F) ((slotM c).view.loc (c : Thread nD τ)))
    {hsrc : (rowsM c).view.WordExact} {hdst : (slotM c).view.WordExact}
    {hsem : DmaTarget.Typed (nD := nD) .hbm (.dma locD) (.here (p := .tc) (slotM c))}
    {α : Type} {Q : α → sProp 𝕄} {k : PUnit → Prog (TpuEff nD τ sig (Elt F) Λ₀ .tc) α} :
    iprop(cellInv ER (Rd I) (κ (locC c)) (locC c) ∗ rowPts I c c
        ∗ ((slotM c).view.loc (c : Thread nD τ) ↦[(slotM c).view.set]{fullShare} fd) ∗ dutyTok ER (locC c) 0 0 ∗ reached ER (locC c) 0)
      ⊢ iprop((cred (tallyAt (locC c) () N) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (rowsM c) (.here (slotM c)) (.dma locD) hsrc hdst hsem) k) Q) := by
  have hd : (0 : Fin 8) ∈ (Rd I).duties (locC c) 0 := by rw [duties_loc]; exact Finset.mem_singleton_self _
  have hpay : iprop(((slotM c).view.loc (c : Thread nD τ) ↦[(slotM c).view.set]{fullShare}
        ((slotM c).view.write (Elt F) fd ((rowsM c).view.read (Elt F) (I.x c)) Finset.univ))
        ∗ ((rowsM c).view.loc (c : Thread nD τ) ↦[(rowsM c).view.set]{fullShare} (I.x c)))
      ⊢ (Rd I).payload (locC c) 0 0 := by
    rw [payload_loc]; unfold locPay rowPts
    exact Laws.sep_mono (slot_written I c c c c fd) (BI.Entails.refl _)
  unfold rowPts
  exact Rounds.wp_copy_pointsTo 𝒱₀ ER (Rd I) (c : Thread nD τ) none (κ := κ (locC c)) (r := 0) (d := 0)
    (src := rowsM c) (dst := slotM c) (sem := .dma locD) (hsrc := hsrc) (hdst := hdst) (hsem := hsem) (k := k) (Q := Q) (Es := Set.univ)
    (fs := I.x c) (fd := fd) (q := fullShare) hd () N (amount_slot c locD) (amount_dma I c locD 0) hpay

/-- The local copy. -/
theorem wp_local (c : Dev nD) {src : Memref sig .tc .hbm S1024x1024 .bf16} {dst : Memref sig .tc .vmem S1024x1024 .bf16} {sem : DmaSem sig}
    (es : src = rowsM c) (ed : dst = slotM c) (em : sem = locD)
    {hsrc : src.view.WordExact} {hdst : dst.view.WordExact} {hsem : DmaTarget.Typed (nD := nD) .hbm (.dma sem) (.here (p := .tc) dst)}
    {α : Type} {Q : α → sProp 𝕄} {k : PUnit → Prog (TpuEff nD τ sig (Elt F) Λ₀ .tc) α} :
    iprop(Inv I κ ∗ loc0 I c ∗ (loc1 c -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma src (.here dst) (.dma sem) hsrc hdst hsem) k) Q := by
  subst es ed em
  unfold loc0 slotAny
  iintro ⟨#HI, ⟨Hrow, ⟨%fd, Hslot⟩, Htok, Hr, Hat⟩, Hk⟩
  iapply (wp_local_own I κ c fd) $$ [Hrow Hslot Htok Hr]
  · isplitr; · iapply (inv_loc I κ c); iexact HI
    isplitl [Hrow]; · iexact Hrow
    isplitl [Hslot]; · iexact Hslot
    isplitl [Htok] <;> iassumption
  iintro Hc
  iapply Hk
  unfold loc1
  isplitl [Hc] <;> iassumption

/-- The signal of offset `o`. -/
theorem wp_signal_step (c : Dev nD) (o : Fin 8) (ho : o ≠ 0) (s : ℕ) (hs : o.val = s + 1) {n : Dev nD} (en : n = nx c o) {sem : Sem sig} (em : sem = barS)
    {amt : ℕ} (ea : amt = 1)
    {α : Type} {Q : α → sProp 𝕄} {k : PUnit → Prog (TpuEff nD τ sig (Elt F) Λ₀ .tc) α} :
    iprop(Inv I κ ∗ (Sig c s ∗ owesAny c (owedBar c s))
        ∗ ((Sig c o.val ∗ owesAny c (owedBar c o.val)) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) sem amt) k) Q := by
  subst en em ea
  unfold Sig owesAny
  iintro ⟨#HI, ⟨HS, ⟨%W, HO⟩⟩, Hk⟩
  ihave H := (bigSep_swap (mem_offs ho) (Ψ := fun o' => if o'.val ≤ o.val then BI.emp else sigSt (F := F) c o')
    (fun j _ hj => by
      have : j.val ≠ o.val := fun h => hj (Fin.ext h)
      by_cases h : j.val ≤ s
      · rw [if_pos h, if_pos (by omega)]
      · rw [if_neg h, if_neg (by omega)])) $$ HS
  rw [if_neg (show ¬ o.val ≤ s by omega), if_pos (le_refl o.val)]
  unfold sigSt
  icases H with ⟨⟨Hrb, Htok, Hslot, Hrr⟩, Hback⟩
  have hd : o ∈ (Rd I).duties (barC (nx c o)) 0 := by rw [duties_bar]; exact mem_offs ho
  have hO : owedBar c s = owedBar c o.val + tallyAt (barC (nx c o)) () 1 := by rw [owedBar_succ c s o hs, hs]
  iapply (Rounds.wp_signal 𝒱₀ ER (Rd I) (c : Thread nD τ) none (dst := (nx c o : Thread nD τ)) (κ := κ (barC (nx c o)))
      (d := o) hd (amount_bar I (nx c o) o) () (O₀ := owedBar c s) (owedBar c o.val) hO (W := W) (hr := routes_tc c (nx c o))) $$ [HO Hrb Htok Hslot Hrr]
  · isplitr; · iapply (inv_bar I κ (nx c o)); iexact HI
    isplitl [HO]; · iexact HO
    isplitl [Htok]; · iexact Htok
    isplitl [Hslot Hrr]
    · rw [payload_bar]; unfold barPay; rw [pr_nx]
      isplitl [Hslot] <;> iassumption
    · iexact Hrb
  iintro HO
  iapply Hk
  isplitl [Hback]
  · iapply Hback; iempintro
  · iexists W; iexact HO

/-- The wait for the seven signals. -/
theorem wp_barrier_wait (c : Dev nD) {sem : Sem sig} (em : sem = barS) {amt : ℕ} (ea : amt = 7)
    {α : Type} {Q : α → sProp 𝕄} {k : PUnit → Prog (TpuEff nD τ sig (Elt F) Λ₀ .tc) α} :
    iprop(Inv I κ ∗ levAts L lv ∗ (cred (tallyAt (barC c) () 7) ∗ atPos ER (barC c) 0 ∅ 0 ∗ bigSep offs (pend0 I c) ∗ owesAny c (owedBar c 7))
        ∗ ((atPos ER (barC c) 1 ∅ 0 ∗ Out I c 0 ∗ owesAny c (owed c 0)) -∗ wp frame (wpE (defs₀ (F := F)) 𝒱₀ (c : Thread nD τ) none) Set.univ (k ⟨⟩) Q))
      ⊢ wp frame (wpE (defs₀ (F := F)) 𝒱₀ (c : Thread nD τ) none) Set.univ (.op (.semWait sem amt) k) Q := by
  subst em ea
  unfold owesAny
  rw [owedBar_seven]
  iintro ⟨#HI, #Hlev, ⟨Hc, Hat, Hp, ⟨%W, HO⟩⟩, Hk⟩
  have hk : 0 + 7 = (Rd I).expect (barC c) 0 := by rw [expect_bar]
  iapply (Rounds.wp_wait_rest_token 𝒱₀ ER (Rd I) (c : Thread nD τ) none (κ := κ (barC c))
      (wpE_semWait_eq 𝒱₀ (c : Thread nD τ) none Set.univ) (Set.mem_univ _) () (O := owed c 0) (W := W) (R := 0) (m := 0) (T := ∅)
      hk) $$ [Hc HO Hat]
  · isplitr; · iapply (inv_bar I κ c); iexact HI
    isplitl [Hc]; · iexact Hc
    isplitl [HO]; · iexact HO
    isplitr; · iapply (mayWait_bar c); iexact Hlev
    iexact Hat
  iintro ⟨HO, Hat, -, Hpay⟩
  ihave Hq := (Entails.of_eq (rest_bar I c)) $$ Hpay
  iapply Hk
  isplitl [Hat]; · iexact Hat
  isplitr [HO]
  · unfold Out
    rw [bigSep_congr (Ψ := pend I c) (fun o ho => if_neg (fun h => ne_of_offs ho (Fin.ext (by have : o.val ≤ 0 := h; show o.val = 0; omega))))]
    unfold pend
    rw [bigSep_sep']
    isplitl [Hp]; · iexact Hp
    unfold barPay; iexact Hq
  · iexists _; iexact HO

/-- The send of offset `o`, of the protocol's own memrefs. -/
theorem wp_send_own (c : Dev nD) (o : Fin 8) (ho : o ≠ 0) (s : ℕ) (hs : o.val = s + 1)
    (fd : Buf (Elt F) ((slotM c).view.loc (pr c o : Thread nD τ))) (W : Waits sig Unit)
    {hsc : (slotM c : Memref sig (Dev.tc (pr c o) : Thread nD τ).2.kind .vmem S1024x1024 .bf16).view.ref.isScScratch = false}
    {hsrc : (rowsM (pr c o)).view.WordExact} {hdst : (slotM c).view.WordExact}
    {hsem : DmaTarget.Typed .hbm (.dma (recvD c)) (.remote (Dev.tc (pr c o) : Thread nD τ) (slotM c) (.dma (sendD o)) hsc)}
    {α : Type} {Q : α → sProp 𝕄} {k : PUnit → Prog (TpuEff nD τ sig (Elt F) Λ₀ .tc) α} :
    iprop(cellInv ER (Rd I) (κ (sendC c o)) (sendC c o) ∗ cellInv ER (Rd I) (κ (recvC (pr c o) c)) (recvC (pr c o) c)
        ∗ rowPts I c (pr c o) ∗ ((slotM c).view.loc (pr c o : Thread nD τ) ↦[(slotM c).view.set]{fullShare} fd)
        ∗ owes (c : Thread nD τ) (owed c s) W
        ∗ dutyTok ER (sendC c o) 0 0 ∗ reached ER (sendC c o) 0 ∗ dutyTok ER (recvC (pr c o) c) 0 0 ∗ reached ER (recvC (pr c o) c) 0)
      ⊢ iprop(((cred (tallyAt (sendC c o) () N) ∗ owes (c : Thread nD τ) (owed c o.val) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM (pr c o)) (.remote (Dev.tc (pr c o) : Thread nD τ) (slotM c) (.dma (sendD o)) hsc) (.dma (recvD c)) hsrc hdst hsem) k) Q) := by
  have hd₁ : (0 : Fin 8) ∈ (Rd I).duties (sendC c o) 0 := by rw [duties_send I c ho]; exact Finset.mem_singleton_self _
  have hd₂ : (0 : Fin 8) ∈ (Rd I).duties (recvC (pr c o) c) 0 := by
    rw [duties_recv I (pr c o) (fun h => pr_ne c o ho h.symm)]; exact Finset.mem_singleton_self _
  have hO : owed c s = owed c o.val + tallyAt (recvC (pr c o) c) () N := by rw [owed_succ c s o hs, hs]
  have hpay₁ : iprop((rowsM (pr c o)).view.loc (c : Thread nD τ) ↦[(rowsM (pr c o)).view.set]{fullShare} (I.x c))
      ⊢ (Rd I).payload (sendC c o) 0 0 := by rw [payload_send]; exact BI.Entails.refl _
  have hpay₂ : iprop((slotM c).view.loc (pr c o : Thread nD τ) ↦[(slotM c).view.set]{fullShare}
        ((slotM c).view.write (Elt F) fd ((rowsM (pr c o)).view.read (Elt F) (I.x c)) Finset.univ))
      ⊢ (Rd I).payload (recvC (pr c o) c) 0 0 := by
    rw [payload_recv]; exact slot_written I c (pr c o) c (pr c o) fd
  unfold rowPts
  exact Rounds.wp_send_pointsTo 𝒱₀ ER (Rd I) (c : Thread nD τ) none (κ₁ := κ (sendC c o)) (κ₂ := κ (recvC (pr c o) c))
    (r₁ := 0) (r₂ := 0) (d₁ := 0) (d₂ := 0) (c' := (Dev.tc (pr c o) : Thread nD τ))
    (src := rowsM (pr c o)) (dst := slotM c) (hsc := hsc) (sS := .dma (sendD o)) (sem := .dma (recvD c)) (hsrc := hsrc) (hdst := hdst)
    (hsem := hsem) (k := k) (Q := Q) (Es := Set.univ) (fs := I.x c) (fd := fd) (q := fullShare) hd₁ hd₂
    () () N (amount_slot c (recvD c)) (amount_dma I c (sendD o) 0) (amount_dma I (pr c o) (recvD c) 0) (O₀ := owed c s) (owed c o.val)
    hO (W := W) hpay₁ hpay₂ (hr := routes_tc c (pr c o))

/-- The send of offset `o`. -/
theorem wp_send_step (c : Dev nD) (o : Fin 8) (ho : o ≠ 0) (s : ℕ) (hs : o.val = s + 1) {n : Dev nD} (en : n = pr c o)
    {src : Memref sig .tc .hbm S1024x1024 .bf16} {dst : Memref sig .tc .vmem S1024x1024 .bf16} {sS sem : DmaSem sig}
    (es : src = rowsM (pr c o)) (ed : dst = slotM c) (eS : sS = sendD o) (em : sem = recvD c)
    {hsc : (dst : Memref sig (Dev.tc n : Thread nD τ).2.kind .vmem S1024x1024 .bf16).view.ref.isScScratch = false}
    {hsrc : src.view.WordExact} {hdst : dst.view.WordExact}
    {hsem : DmaTarget.Typed .hbm (.dma sem) (.remote (Dev.tc n : Thread nD τ) dst (.dma sS) hsc)}
    {α : Type} {Q : α → sProp 𝕄} {k : PUnit → Prog (TpuEff nD τ sig (Elt F) Λ₀ .tc) α} :
    iprop(Inv I κ ∗ (Out I c s ∗ owesAny c (owed c s))
        ∗ ((Out I c o.val ∗ owesAny c (owed c o.val)) -∗ wp frame (wpE (defs₀ (F := F)) 𝒱₀ (c : Thread nD τ) none) Set.univ (k ⟨⟩) Q))
      ⊢ wp frame (wpE (defs₀ (F := F)) 𝒱₀ (c : Thread nD τ) none) Set.univ
          (.op (.enqueueDma src (.remote (Dev.tc n : Thread nD τ) dst (.dma sS) hsc) (.dma sem) hsrc hdst hsem) k) Q := by
  subst en es ed eS em
  unfold Out owesAny
  iintro ⟨#HI, ⟨HS, ⟨%W, HO⟩⟩, Hk⟩
  ihave H := (bigSep_swap (mem_offs ho) (Ψ := fun o' => if o'.val ≤ o.val then sent (F := F) c o' else pend I c o')
    (fun j _ hj => by
      have : j.val ≠ o.val := fun h => hj (Fin.ext h)
      by_cases h : j.val ≤ s
      · rw [if_pos h, if_pos (by omega)]
      · rw [if_neg h, if_neg (by omega)])) $$ HS
  rw [if_neg (show ¬ o.val ≤ s by omega), if_pos (le_refl o.val)]
  unfold pend pend0 slotAny
  icases H with ⟨⟨⟨Hrow, HtS, HtR, HrS, Hat⟩, ⟨%fd, Hslot⟩, HrR⟩, Hback⟩
  iapply (wp_send_own I κ c o ho s hs fd W) $$ [Hrow Hslot HO HtS HrS HtR HrR]
  · isplitr; · iapply (inv_send I κ c o); iexact HI
    isplitr; · iapply (inv_recv I κ (pr c o) c); iexact HI
    isplitl [Hrow]; · iexact Hrow
    isplitl [Hslot]; · iexact Hslot
    isplitl [HO]; · iexact HO
    isplitl [HtS]; · iexact HtS
    isplitl [HrS]; · iexact HrS
    isplitl [HtR] <;> iassumption
  iintro ⟨Hc, HO⟩
  iapply Hk
  isplitr [HO]
  · iapply Hback; unfold sent
    isplitl [Hc] <;> iassumption
  · iexists W; iexact HO

/-- The wait for the local copy. -/
theorem wp_local_wait (c : Dev nD) (n : ℕ) {src : Memref sig .tc .hbm S1024x1024 .bf16} {dst : Memref sig .tc .vmem S1024x1024 .bf16} {sem : DmaSem sig}
    (ed : dst = slotM c) (em : sem = locD) {hsrc : src.view.WordExact} {hdst : dst.view.WordExact}
    {α : Type} {Q : α → sProp 𝕄} {k : PUnit → Prog (TpuEff nD τ sig (Elt F) Λ₀ .tc) α} :
    iprop(Inv I κ ∗ levAts L lv ∗ (loc1 c ∗ owesAny c (owed c n))
        ∗ ((loc2 I c ∗ owesAny c (owed c n)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sem src dst hsrc hdst) k) Q := by
  subst ed em
  unfold loc1 owesAny
  iintro ⟨#HI, #Hlev, ⟨⟨Hc, Hat⟩, ⟨%W, HO⟩⟩, Hk⟩
  have hN : (slotM c).view.dmaCredit = N := credit_slot _
  have hk : 0 + (slotM c).view.dmaCredit = (Rd I).expect (locC c) 0 := by rw [hN, Nat.zero_add, expect_dma I c (duties_loc I c)]
  iapply (Rounds.wp_wait_rest_token 𝒱₀ ER (Rd I) (c : Thread nD τ) none (w := .waitDma2 locD src (slotM c) hsrc hdst) (κ := κ (locC c))
      (wpE_waitDma2_eq 𝒱₀ (c : Thread nD τ) none Set.univ) (Set.mem_univ _) () (O := owed c n) (W := W) (R := 0) (m := 0) (T := ∅)
      hk) $$ [Hc HO Hat]
  · isplitr; · iapply (inv_loc I κ c); iexact HI
    isplitl [Hc]; · rw [hN]; iexact Hc
    isplitl [HO]; · iexact HO
    isplitr; · iapply (mayWait_low c locD (.inr rfl) n); iexact Hlev
    iexact Hat
  iintro ⟨HO, Hat, -, Hpay⟩
  ihave Hq := (Entails.of_eq (rest_loc I c)) $$ Hpay
  unfold locPay
  icases Hq with ⟨Hslot, -⟩
  iapply Hk
  unfold loc2
  isplitl [Hslot Hat]
  · isplitl [Hslot] <;> iassumption
  · iexists _; iexact HO

/-- The wait for the arrival of offset `o`. -/
theorem wp_recv_wait (c : Dev nD) (o : Fin 8) (ho : o ≠ 0) (n : ℕ) (hn : o.val ≤ n)
    {src : Memref sig .tc .hbm S1024x1024 .bf16} {dst : Memref sig .tc .vmem S1024x1024 .bf16} {sem : DmaSem sig}
    (ed : dst = slotM (nx c o)) (em : sem = recvD (nx c o)) {hsrc : src.view.WordExact} {hdst : dst.view.WordExact}
    {α : Type} {Q : α → sProp 𝕄} {k : PUnit → Prog (TpuEff nD τ sig (Elt F) Λ₀ .tc) α} :
    iprop(Inv I κ ∗ levAts L lv ∗ (In I c o.val ∗ owesAny c (owed c n))
        ∗ ((In I c (o.val + 1) ∗ owesAny c (owed c n)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sem src dst hsrc hdst) k) Q := by
  subst ed em
  unfold In owesAny
  iintro ⟨#HI, #Hlev, ⟨HS, ⟨%W, HO⟩⟩, Hk⟩
  ihave H := (bigSep_swap (mem_offs ho) (Ψ := fun o' => if o'.val < o.val + 1 then arrived I c o' else expecting (F := F) c o')
    (fun j _ hj => by
      have : j.val ≠ o.val := fun h => hj (Fin.ext h)
      by_cases h : j.val < o.val
      · rw [if_pos h, if_pos (by omega)]
      · rw [if_neg h, if_neg (by omega)])) $$ HS
  rw [if_neg (lt_irrefl o.val), if_pos (Nat.lt_succ_self o.val)]
  unfold expecting
  icases H with ⟨⟨Hc, Hat⟩, Hback⟩
  have hN : (slotM (nx c o)).view.dmaCredit = N := credit_slot _
  have hk : 0 + (slotM (nx c o)).view.dmaCredit = (Rd I).expect (recvC c (nx c o)) 0 := by rw [hN, Nat.zero_add, expect_dma I c (duties_recv I c (nx_ne c o ho))]
  iapply (Rounds.wp_wait_rest_token 𝒱₀ ER (Rd I) (c : Thread nD τ) none (w := .waitDma2 (recvD (nx c o)) src (slotM (nx c o)) hsrc hdst) (κ := κ (recvC c (nx c o)))
      (wpE_waitDma2_eq 𝒱₀ (c : Thread nD τ) none Set.univ) (Set.mem_univ _) () (O := owed c n) (W := W) (R := 0) (m := 0) (T := ∅)
      hk) $$ [Hc HO Hat]
  · isplitr; · iapply (inv_recv I κ c (nx c o)); iexact HI
    isplitl [Hc]; · rw [hN]; iexact Hc
    isplitl [HO]; · iexact HO
    isplitr; · iapply (mayWait_recv c o n hn); iexact Hlev
    iexact Hat
  iintro ⟨HO, Hat, -, Hpay⟩
  ihave Hq := (Entails.of_eq (rest_recv I c (nx_ne c o ho))) $$ Hpay
  unfold recvPay
  iapply Hk
  isplitr [HO]
  · iapply Hback; unfold arrived
    isplitl [Hq] <;> iassumption
  · iexists _; iexact HO

/-- The wait for the departure of offset `o`. -/
theorem wp_send_wait (c : Dev nD) (o : Fin 8) (ho : o ≠ 0) (s : ℕ) (hs : o.val = s + 1) (n : ℕ)
    {src : Memref sig .tc .vmem S1024x1024 .bf16} {dst : Memref sig .tc .hbm S1024x1024 .bf16} {sem : DmaSem sig}
    (ed : dst = rowsM (pr c o)) (em : sem = sendD o) {hsrc : src.view.WordExact} {hdst : dst.view.WordExact}
    {α : Type} {Q : α → sProp 𝕄} {k : PUnit → Prog (TpuEff nD τ sig (Elt F) Λ₀ .tc) α} :
    iprop(Inv I κ ∗ levAts L lv ∗ (Left c s ∗ owesAny c (owed c n))
        ∗ ((Left c o.val ∗ owesAny c (owed c n)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sem src dst hsrc hdst) k) Q := by
  subst ed em
  unfold Left owesAny
  iintro ⟨#HI, #Hlev, ⟨HS, ⟨%W, HO⟩⟩, Hk⟩
  ihave H := (bigSep_swap (mem_offs ho) (Ψ := fun o' => if o'.val ≤ o.val then atPos ER (sendC c o') 1 ∅ 0 else sent (F := F) c o')
    (fun j _ hj => by
      have : j.val ≠ o.val := fun h => hj (Fin.ext h)
      by_cases h : j.val ≤ s
      · rw [if_pos h, if_pos (by omega)]
      · rw [if_neg h, if_neg (by omega)])) $$ HS
  rw [if_neg (show ¬ o.val ≤ s by omega), if_pos (le_refl o.val)]
  unfold sent
  icases H with ⟨⟨Hc, Hat⟩, Hback⟩
  have hN : (rowsM (pr c o)).view.dmaCredit = N := credit_rows _
  have hk : 0 + (rowsM (pr c o)).view.dmaCredit = (Rd I).expect (sendC c o) 0 := by rw [hN, Nat.zero_add, expect_dma I c (duties_send I c ho)]
  iapply (Rounds.wp_wait_rest_token 𝒱₀ ER (Rd I) (c : Thread nD τ) none (w := .waitDma2 (sendD o) src (rowsM (pr c o)) hsrc hdst) (κ := κ (sendC c o))
      (wpE_waitDma2_eq 𝒱₀ (c : Thread nD τ) none Set.univ) (Set.mem_univ _) () (O := owed c n) (W := W) (R := 0) (m := 0) (T := ∅)
      hk) $$ [Hc HO Hat]
  · isplitr; · iapply (inv_send I κ c o); iexact HI
    isplitl [Hc]; · rw [hN]; iexact Hc
    isplitl [HO]; · iexact HO
    isplitr; · iapply (mayWait_low c (sendD o) (.inl (by show 3 + o.val < 11; omega)) n); iexact Hlev
    iexact Hat
  iintro ⟨HO, Hat, -, -⟩
  iapply Hk
  isplitr [HO]
  · iapply Hback; iexact Hat
  · iexists _; iexact HO

end Cert.KernelIdeal.Exchange

end
-- ==== Proof.Ideal.Body1.lean ====
/-
The kernel's body at one point of the grid, first half: the state between points, and the body up to its product.
-/
module

public import proofs.«01_k».proof.Proof.Ideal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (κ : GSem nD τ sig → ℕ)

/-! ## The points -/

/-- The sends made after the first `k` of the body's send blocks, at point `t`. -/
def st (t k : ℕ) : ℕ :=
  if t = 0 then min k 2
  else if t % 4 = 0 then (if t / 4 + 2 ≤ k then min (t / 4 + 2) 7 else min (t / 4 + 1) 7)
  else min (t / 4 + 2) 7

/-- The arrivals in before point `t`. -/
def inB (t : ℕ) : ℕ := if t % 4 = 0 ∧ t ≠ 0 then t / 4 else t / 4 + 1

theorem coords0 : ∀ t : Fin grid0.N, (grid0.coords t 0).val = t.val / 4 := by decide +kernel
theorem coords1 : ∀ t : Fin grid0.N, (grid0.coords t 1).val = t.val % 4 := by decide +kernel
theorem t_lt (t : Fin grid0.N) : t.val < 32 := t.isLt

theorem c1 : ∀ t : Fin grid0.N, k0_cond1 (grid0.coords t) = 1#1 ↔ t.val = 0 := by decide +kernel
theorem c2 : ∀ t : Fin grid0.N, (k0_cond2 (grid0.coords t) = 1#1 → st t.val 0 + 1 = 1 ∧ st t.val 1 = 1) ∧ (¬ k0_cond2 (grid0.coords t) = 1#1 → st t.val 1 = st t.val 0) := by decide +kernel
theorem c3 : ∀ t : Fin grid0.N, (k0_cond3 (grid0.coords t) = 1#1 → st t.val 1 + 1 = 2 ∧ st t.val 2 = 2) ∧ (¬ k0_cond3 (grid0.coords t) = 1#1 → st t.val 2 = st t.val 1) := by decide +kernel
theorem c4 : ∀ t : Fin grid0.N, (k0_cond4 (grid0.coords t) = 1#1 → st t.val 2 + 1 = 3 ∧ st t.val 3 = 3) ∧ (¬ k0_cond4 (grid0.coords t) = 1#1 → st t.val 3 = st t.val 2) := by decide +kernel
theorem c5 : ∀ t : Fin grid0.N, (k0_cond5 (grid0.coords t) = 1#1 → st t.val 3 + 1 = 4 ∧ st t.val 4 = 4) ∧ (¬ k0_cond5 (grid0.coords t) = 1#1 → st t.val 4 = st t.val 3) := by decide +kernel
theorem c6 : ∀ t : Fin grid0.N, (k0_cond6 (grid0.coords t) = 1#1 → st t.val 4 + 1 = 5 ∧ st t.val 5 = 5) ∧ (¬ k0_cond6 (grid0.coords t) = 1#1 → st t.val 5 = st t.val 4) := by decide +kernel
theorem c7 : ∀ t : Fin grid0.N, (k0_cond7 (grid0.coords t) = 1#1 → st t.val 5 + 1 = 6 ∧ st t.val 6 = 6) ∧ (¬ k0_cond7 (grid0.coords t) = 1#1 → st t.val 6 = st t.val 5) := by decide +kernel
theorem c8 : ∀ t : Fin grid0.N, (k0_cond8 (grid0.coords t) = 1#1 → st t.val 6 + 1 = 7 ∧ st t.val 7 = 7) ∧ (¬ k0_cond8 (grid0.coords t) = 1#1 → st t.val 7 = st t.val 6) := by decide +kernel
theorem c9 : ∀ t : Fin grid0.N, k0_cond9 (grid0.coords t) = 1#1 ↔ t.val = 0 := by decide +kernel
theorem c10 : ∀ t : Fin grid0.N, k0_cond10 (grid0.coords t) = 1#1 ↔ (t.val % 4 = 0 ∧ t.val ≠ 0) := by decide +kernel
theorem c11 : ∀ t : Fin grid0.N, k0_cond11 (grid0.coords t) = 1#1 ↔ t.val / 4 = 0 := by decide +kernel
theorem c12 : ∀ t : Fin grid0.N, k0_cond12 (grid0.coords t) = 1#1 ↔ (t.val / 4 ≠ 0 ∧ t.val / 4 ≠ 7) := by decide +kernel
theorem c13 : ∀ t : Fin grid0.N, k0_cond13 (grid0.coords t) = 1#1 ↔ t.val / 4 = 7 := by decide +kernel
theorem c14 : ∀ t : Fin grid0.N, k0_cond14 (grid0.coords t) = 1#1 ↔ t.val = 31 := by decide +kernel
theorem st_recv : ∀ t : Fin grid0.N, (t.val % 4 = 0 ∧ t.val ≠ 0) → t.val / 4 ≤ st t.val 7 := by decide +kernel
theorem chk1 : ∀ (i : grid0.Coords) (k : Fin 8), k0_chk1 i (BitVec.ofNat 32 k.val) := by decide +kernel
theorem word_toNat : ∀ k : Fin 8, (BitVec.ofNat 32 k.val).toNat = k.val := by decide

/-- The step and the column chunk of point `t`. -/
def jOf (t : Fin grid0.N) : Fin 8 := ⟨t.val / 4, by have := t_lt t; omega⟩
def nOf (t : Fin grid0.N) : Fin 4 := ⟨t.val % 4, by omega⟩

/-! ## One `if` of the body -/

section Ifs
variable {c : Dev nD} {α : Type}

theorem wp_ite {b : Prop} [Decidable b] {A : b → Prog (TpuEff nD τ sig (Elt F) Λ₀ .tc) α} {B : ¬ b → Prog (TpuEff nD τ sig (Elt F) Λ₀ .tc) α}
    {R : sProp 𝕄} {Q : α → sProp 𝕄}
    (hA : ∀ h, R ⊢ wp frame (wpE (defs₀ (F := F)) 𝒱₀ (c : Thread nD τ) none) Set.univ (A h) Q)
    (hB : ∀ h, R ⊢ wp frame (wpE (defs₀ (F := F)) 𝒱₀ (c : Thread nD τ) none) Set.univ (B h) Q) :
    R ⊢ wp frame (wpE (defs₀ (F := F)) 𝒱₀ (c : Thread nD τ) none) Set.univ (dite b A B) Q := by
  by_cases h : b
  · rw [dif_pos h]; exact hA h
  · rw [dif_neg h]; exact hB h

/-- An `if` that moves the state from `S` to `S'` where its condition holds, and leaves `S` where that is `S'` already. -/
theorem wp_move {b : Prop} [Decidable b] {A : b → Prog (TpuEff nD τ sig (Elt F) Λ₀ .tc) PUnit}
    (P S S' : sProp 𝕄) {Q : PUnit → sProp 𝕄}
    (hA : ∀ h, iprop(P ∗ S ∗ (S' -∗ Q ⟨⟩)) ⊢ wp frame (wpE (defs₀ (F := F)) 𝒱₀ (c : Thread nD τ) none) Set.univ (A h) Q)
    (hB : ¬ b → S ⊢ S') :
    iprop(P ∗ S ∗ (S' -∗ Q ⟨⟩)) ⊢ wp frame (wpE (defs₀ (F := F)) 𝒱₀ (c : Thread nD τ) none) Set.univ (if h : b then A h else .ret ⟨⟩) Q := by
  refine wp_ite hA fun h => ?_
  rw [wp_ret]
  iintro ⟨-, HS, Hk⟩
  imodintro
  iapply Hk
  iapply (hB h); iexact HS

end Ifs

/-! ## The state between points -/

/-- The sends made up to offset `n`, with what is still owed. -/
def OutO (c : Dev nD) (n : ℕ) : sProp 𝕄 := iprop(Out I c n ∗ owesAny c (owed c n))

/-- What the first point starts from, but for what is owed. -/
def Start (c : Dev nD) : sProp 𝕄 :=
  iprop(loc0 I c ∗ Sig c 0 ∗ cred (tallyAt (barC c) () 7) ∗ atPos ER (barC c) 0 ∅ 0 ∗ bigSep offs (pend0 I c))

/-- The outgoing side before point `t`, but for what is owed. -/
def Front (c : Dev nD) (t : ℕ) : sProp 𝕄 :=
  if t = 0 then Start I c else iprop(Out I c (st t 0) ∗ loc2 I c ∗ atPos ER (barC c) 1 ∅ 0)

/-- What the core owes before point `t`. -/
def owedB (c : Dev nD) (t : ℕ) : CellTallies nD τ sig Unit := if t = 0 then owedBar c 0 else owed c (st t 0)

/-- The table of the peers' order, held. -/
def Tbl (c : Dev nD) : sProp 𝕄 := ((c : Thread nD τ).loc main_v10 ↦{fullShare} (I.tbl c))

/-- The departure cell of offset 0 and the arrival cell of the device's own slot: never used. -/
def Idle (c : Dev nD) : sProp 𝕄 := iprop(atPos ER (sendC c 0) 0 ∅ 0 ∗ atPos ER (recvC c c) 0 ∅ 0)

/-- The table's entries are the peers in the order they are taken up. -/
def TblOk : Prop := ∀ (c : Dev nD) (j : Fin 8) (x : S8.Idx), (x 0).val = j.val → I.tbl c x = BitVec.ofNat 32 (nx c j).val

end Cert.KernelIdeal.Exchange

end
-- ==== Proof.Ideal.Body2.lean ====
module

public import proofs.«01_k».proof.Proof.Ideal.Body1

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (κ : GSem nD τ sig → ℕ)

/-- The local copy's state, after the first point's first block. -/
def LB (c : Dev nD) (t : ℕ) : sProp 𝕄 := if t = 0 then loc1 c else loc2 I c

/-- An `if` before a shared rest `K`: its body moves the state from `S` to `S'` and goes on to `K`; where its condition fails, `S` is `S'` already. -/
theorem wp_join (c : Dev nD) (P S S' : sProp 𝕄) {b : Prop} [Decidable b] {α : Type} {A : b → Prog (TpuEff nD τ sig (Elt F) Λ₀ .tc) α}
    {K : Prog (TpuEff nD τ sig (Elt F) Λ₀ .tc) α} {Q : α → sProp 𝕄}
    (hA : ∀ h, iprop(P ∗ S ∗ (S' -∗ wp frame (wpE (defs₀ (F := F)) 𝒱₀ (c : Thread nD τ) none) Set.univ K Q))
      ⊢ wp frame (wpE (defs₀ (F := F)) 𝒱₀ (c : Thread nD τ) none) Set.univ (A h) Q)
    (hB : ¬ b → S ⊢ S') :
    iprop(P ∗ S ∗ (S' -∗ wp frame (wpE (defs₀ (F := F)) 𝒱₀ (c : Thread nD τ) none) Set.univ K Q))
      ⊢ wp frame (wpE (defs₀ (F := F)) 𝒱₀ (c : Thread nD τ) none) Set.univ (if h : b then A h else K) Q := by
  refine wp_ite hA fun h => ?_
  iintro ⟨-, HS, Hk⟩
  iapply Hk
  iapply (hB h); iexact HS

/-- A send that may be made at this point, before a shared rest. -/
theorem wp_send_if (c : Dev nD) (o : Fin 8) (ho : o ≠ 0) {s s' : ℕ} {b : Prop} [Decidable b]
    (hc : (b → s + 1 = o.val ∧ s' = o.val) ∧ (¬ b → s' = s))
    {α : Type} {A : b → Prog (TpuEff nD τ sig (Elt F) Λ₀ .tc) α} {K : Prog (TpuEff nD τ sig (Elt F) Λ₀ .tc) α} {Q : α → sProp 𝕄}
    (hA : ∀ (h : b) (hs : o.val = s + 1), iprop(Inv I κ ∗ OutO I c s ∗ (OutO I c o.val -∗ wp frame (wpE (defs₀ (F := F)) 𝒱₀ (c : Thread nD τ) none) Set.univ K Q))
      ⊢ wp frame (wpE (defs₀ (F := F)) 𝒱₀ (c : Thread nD τ) none) Set.univ (A h) Q) :
    iprop(Inv I κ ∗ OutO I c s ∗ (OutO I c s' -∗ wp frame (wpE (defs₀ (F := F)) 𝒱₀ (c : Thread nD τ) none) Set.univ K Q))
      ⊢ wp frame (wpE (defs₀ (F := F)) 𝒱₀ (c : Thread nD τ) none) Set.univ (if h : b then A h else K) Q := by
  refine wp_join c _ _ _ (fun h => ?_) fun h => ?_
  · obtain ⟨h1, h2⟩ := hc.1 h
    rw [h2]; exact hA h h1.symm
  · rw [hc.2 h]

/-- The word read from the table at step `j`. -/
theorem tbl_word (hT : TblOk I) (c : Dev nD) (t : Fin grid0.N) (h : ∀ a, (k0_off2 (grid0.coords t)) a + S1.size a ≤ S8.size a) (x) :
    ((Memref.whole main_v10 : Memref sig .tc .smem S8 .i32).access (Rect.unit (k0_off2 (grid0.coords t)) S1.size h)).read (Elt F) (I.tbl c) x
      = BitVec.ofNat 32 (nx c (jOf t)).val := by
  refine hT c (jOf t) _ ?_
  have hx : (x 0).val = 0 := by have := (x 0).isLt; simpa using this
  show k0_off2 (grid0.coords t) 0 + 1 * (x 0).val = t.val / 4
  rw [hx, k0_off2_eq]
  simpa using coords0 t

/-- The first point's own block: the local copy, the seven signals and the wait for seven. -/
theorem first_block (c : Dev nD) {src : Memref sig .tc .hbm S1024x1024 .bf16} {dst : Memref sig .tc .vmem S1024x1024 .bf16} {sem : DmaSem sig}
    (es : src = rowsM c) (ed : dst = slotM c) (em : sem = locD)
    {hsrc : src.view.WordExact} {hdst : dst.view.WordExact} {hsem : DmaTarget.Typed (nD := nD) .hbm (.dma sem) (.here (p := .tc) dst)}
    {n1 n2 n3 n4 n5 n6 n7 : Dev nD} (e1 : n1 = nx c 1) (e2 : n2 = nx c 2) (e3 : n3 = nx c 3) (e4 : n4 = nx c 4) (e5 : n5 = nx c 5) (e6 : n6 = nx c 6) (e7 : n7 = nx c 7)
    {bs : Sem sig} (eb : bs = barS) {a1 a7 : ℕ} (ea1 : a1 = 1) (ea7 : a7 = 7)
    {α : Type} {Q : α → sProp 𝕄} {K : Prog (TpuEff nD τ sig (Elt F) Λ₀ .tc) α} :
    iprop((Inv I κ ∗ levAts L lv) ∗ (Start I c ∗ owesAny c (owedBar c 0))
        ∗ ((OutO I c 0 ∗ loc1 c ∗ atPos ER (barC c) 1 ∅ 0) -∗ wp frame (wpE (defs₀ (F := F)) 𝒱₀ (c : Thread nD τ) none) Set.univ K Q))
      ⊢ wp frame (wpE (defs₀ (F := F)) 𝒱₀ (c : Thread nD τ) none) Set.univ
          (.op (.enqueueDma src (.here dst) (.dma sem) hsrc hdst hsem) fun _ => .op (.semSignal (n1 : Thread nD τ) bs a1) fun _ => .op (.semSignal (n2 : Thread nD τ) bs a1) fun _ =>
            .op (.semSignal (n3 : Thread nD τ) bs a1) fun _ => .op (.semSignal (n4 : Thread nD τ) bs a1) fun _ => .op (.semSignal (n5 : Thread nD τ) bs a1) fun _ =>
            .op (.semSignal (n6 : Thread nD τ) bs a1) fun _ => .op (.semSignal (n7 : Thread nD τ) bs a1) fun _ => .op (.semWait bs a7) fun _ => K) Q := by
  unfold OutO Start
  iintro ⟨⟨#HI, #HL⟩, ⟨⟨Hloc, HSig, Hcr, Hat, Hpend⟩, HO⟩, HK⟩
  iapply (wp_local I κ c es ed em)
  isplitr; · iexact HI
  isplitl [Hloc]; · iexact Hloc
  iintro Hloc
  iapply (wp_signal_step I κ c 1 (by decide) 0 rfl e1 eb ea1)
  isplitr; · iexact HI
  isplitl [HSig HO]; · (isplitl [HSig]; · iexact HSig); iexact HO
  iintro ⟨HSig, HO⟩
  iapply (wp_signal_step I κ c 2 (by decide) 1 rfl e2 eb ea1)
  isplitr; · iexact HI
  isplitl [HSig HO]; · (isplitl [HSig]; · iexact HSig); iexact HO
  iintro ⟨HSig, HO⟩
  iapply (wp_signal_step I κ c 3 (by decide) 2 rfl e3 eb ea1)
  isplitr; · iexact HI
  isplitl [HSig HO]; · (isplitl [HSig]; · iexact HSig); iexact HO
  iintro ⟨HSig, HO⟩
  iapply (wp_signal_step I κ c 4 (by decide) 3 rfl e4 eb ea1)
  isplitr; · iexact HI
  isplitl [HSig HO]; · (isplitl [HSig]; · iexact HSig); iexact HO
  iintro ⟨HSig, HO⟩
  iapply (wp_signal_step I κ c 5 (by decide) 4 rfl e5 eb ea1)
  isplitr; · iexact HI
  isplitl [HSig HO]; · (isplitl [HSig]; · iexact HSig); iexact HO
  iintro ⟨HSig, HO⟩
  iapply (wp_signal_step I κ c 6 (by decide) 5 rfl e6 eb ea1)
  isplitr; · iexact HI
  isplitl [HSig HO]; · (isplitl [HSig]; · iexact HSig); iexact HO
  iintro ⟨HSig, HO⟩
  iapply (wp_signal_step I κ c 7 (by decide) 6 rfl e7 eb ea1)
  isplitr; · iexact HI
  isplitl [HSig HO]; · (isplitl [HSig]; · iexact HSig); iexact HO
  iintro ⟨HSig, HO⟩
  iapply (wp_barrier_wait I κ c eb ea7)
  isplitr; · iexact HI
  isplitr; · iexact HL
  isplitl [Hcr Hat Hpend HO]
  · isplitl [Hcr]; · iexact Hcr
    isplitl [Hat]; · iexact Hat
    isplitl [Hpend]; · iexact Hpend
    iexact HO
  iintro ⟨Hat, HOut, HO⟩
  iapply HK
  isplitl [HOut HO]; · (isplitl [HOut]; · iexact HOut); iexact HO
  isplitl [Hloc]; · iexact Hloc
  iexact Hat

/-- Past the first point the block is passed over. -/
theorem first_if (c : Dev nD) (t : ℕ) {b : Prop} [Decidable b] (hb : b ↔ t = 0)
    {α : Type} {A : b → Prog (TpuEff nD τ sig (Elt F) Λ₀ .tc) α} {K : Prog (TpuEff nD τ sig (Elt F) Λ₀ .tc) α} {Q : α → sProp 𝕄}
    (hA : ∀ h, iprop((Inv I κ ∗ levAts L lv) ∗ (Start I c ∗ owesAny c (owedBar c 0))
        ∗ ((OutO I c 0 ∗ loc1 c ∗ atPos ER (barC c) 1 ∅ 0) -∗ wp frame (wpE (defs₀ (F := F)) 𝒱₀ (c : Thread nD τ) none) Set.univ K Q))
      ⊢ wp frame (wpE (defs₀ (F := F)) 𝒱₀ (c : Thread nD τ) none) Set.univ (A h) Q) :
    iprop((Inv I κ ∗ levAts L lv) ∗ (Front I c t ∗ owesAny c (owedB c t))
        ∗ ((OutO I c (st t 0) ∗ LB I c t ∗ atPos ER (barC c) 1 ∅ 0) -∗ wp frame (wpE (defs₀ (F := F)) 𝒱₀ (c : Thread nD τ) none) Set.univ K Q))
      ⊢ wp frame (wpE (defs₀ (F := F)) 𝒱₀ (c : Thread nD τ) none) Set.univ (if h : b then A h else K) Q := by
  refine wp_join c _ _ _ (fun h => ?_) fun h => ?_
  · have h0 : t = 0 := hb.1 h
    have hst : st t 0 = 0 := by rw [h0]; rfl
    rw [hst]
    unfold Front owedB LB
    rw [if_pos h0, if_pos h0, if_pos h0]
    exact hA h
  · have h0 : ¬ t = 0 := fun h' => h (hb.2 h')
    unfold Front owedB LB OutO
    rw [if_neg h0, if_neg h0, if_neg h0]
    iintro ⟨⟨HOut, Hloc, Hat⟩, HO⟩
    isplitl [HOut HO]; · (isplitl [HOut]; · iexact HOut); iexact HO
    isplitl [Hloc]; · iexact Hloc
    iexact Hat

set_option maxHeartbeats 2000000 in
theorem part4_spec (hT : TblOk I) (c : Dev nD) (t : Fin grid0.N)
    (arg4 : Memref sig .tc .vmem S1024x1024 .f32) (harg4 : arg4.IsWhole) (arg5 : Memref sig .tc .vmem S1024x4096 .f32) (harg5 : arg5.IsWhole)
    (h2 : (Memref.whole main_v10).IsWhole) (h3 : (Memref.whole main_v1).IsWhole) (h6 : (Memref.whole cc0_scratch0).IsWhole) (h7 : (Memref.whole cc0_scratch1).IsWhole)
    {Q : (Σ' (arg0 : BitVec 32) (arg1 : BitVec 32) (d0 : Dev nD) (v2 : BitVec 32) (v4 : Elt F .i32) (k0_hw1 : k0_chk1 (grid0.coords t) v4), BitVec 1) → sProp 𝕄} :
    iprop((Inv I κ ∗ levAts L lv) ∗ (Front I c t.val ∗ owesAny c (owedB c t.val)) ∗ Tbl I c
        ∗ (∀ (v2 : BitVec 32) (hw : k0_chk1 (grid0.coords t) (BitVec.ofNat 32 (nx c (jOf t)).val)) (v10 : BitVec 1),
            (OutO I c (st t.val 3) ∗ LB I c t.val ∗ atPos ER (barC c) 1 ∅ 0 ∗ Tbl I c)
              -∗ Q ⟨BitVec.ofNat 32 (grid0.coords t 0).val, BitVec.ofNat 32 (grid0.coords t 1).val, c, v2, BitVec.ofNat 32 (nx c (jOf t)).val, hw, v10⟩))
      ⊢ wp frame (wpE (defs₀ (F := F)) 𝒱₀ (c : Thread nD τ) none) Set.univ
          (k0_part4 (grid0.coords t) (Memref.whole main_v10) h2 (Memref.whole main_v1) h3 arg4 harg4 arg5 harg5
            (Memref.whole cc0_scratch0) h6 (Memref.whole cc0_scratch1) h7 cc0_scratch2 cc0_scratch3 cc0_scratch4) Q := by
  rw [k0_part4_eq_skeleton]
  unfold k0_part4_skel
  simp only [k0_part1_eq_skeleton, k0_part1_skel, semSignalWord, semWaitWord, Prog.lift, Prog.bind_op, Prog.bind_ret, Prog.pure_eq_ret, wp_deviceId, smemLoad, smemLoadElt_bind]
  unfold Tbl
  iintro ⟨⟨#HI, #HL⟩, HS, HT, HQ⟩
  iapply (wp_smemLoadElt 𝒱₀ (c : Thread nD τ) none Set.univ (Finset.subset_univ _)) $$ [HT]
  · iexact HT
  iintro HT
  rw [tbl_word I hT c t]
  rw [wp_assume_of _ _ _ _ (chk1 (grid0.coords t) (nx c (jOf t)))]
  iapply (first_if I κ c t.val (c1 t) (fun h => first_block I κ c (rows_of c _ (k0_off4_eq c)) (slot_of c _ (k0_off3_eq c)) locD_eq
      (Fin.ext (k0_dev1_eq c)) (Fin.ext (k0_dev2_eq c)) (Fin.ext (k0_dev3_eq c)) (Fin.ext (k0_dev4_eq c)) (Fin.ext (k0_dev5_eq c)) (Fin.ext (k0_dev6_eq c)) (Fin.ext (k0_dev7_eq c))
      barS_eq rfl rfl))
  isplitr
  · isplitr; · iexact HI
    iexact HL
  isplitl [HS]; · iexact HS
  iintro ⟨HO, Hloc, Hat⟩
  iapply (wp_send_if I κ c 1 (by decide) (c2 t) (fun h hs => wp_send_step I κ c 1 (by decide) _ hs (Fin.ext (k0_dev8_eq c))
      (rows_of (pr c 1) _ (k0_off7_eq c)) (slot_of c _ (k0_off6_eq c)) (send_of 1 _ rfl) (recv_of c _ (k0_off5_eq c))))
  isplitr; · iexact HI
  isplitl [HO]; · iexact HO
  iintro HO
  iapply (wp_send_if I κ c 2 (by decide) (c3 t) (fun h hs => wp_send_step I κ c 2 (by decide) _ hs (Fin.ext (k0_dev9_eq c))
      (rows_of (pr c 2) _ (k0_off10_eq c)) (slot_of c _ (k0_off9_eq c)) (send_of 2 _ rfl) (recv_of c _ (k0_off8_eq c))))
  isplitr; · iexact HI
  isplitl [HO]; · iexact HO
  iintro HO
  iapply (wp_send_if I κ c 3 (by decide) (c4 t) (fun h hs => wp_send_step I κ c 3 (by decide) _ hs (Fin.ext (k0_dev10_eq c))
      (rows_of (pr c 3) _ (k0_off13_eq c)) (slot_of c _ (k0_off12_eq c)) (send_of 3 _ rfl) (recv_of c _ (k0_off11_eq c))))
  isplitr; · iexact HI
  isplitl [HO]; · iexact HO
  iintro HO
  rw [wp_ret]
  imodintro
  iapply HQ
  isplitl [HO]; · iexact HO
  isplitl [Hloc]; · iexact Hloc
  isplitl [Hat]; · iexact Hat
  iexact HT

end Cert.KernelIdeal.Exchange

end
-- ==== Proof.Ideal.Acc.lean ====
module

public import proofs.«01_k».proof.Proof.Ideal.Body2
public import Idealize.ShloMosaic.Lib.VecWindow
public import Idealize.ShloMosaic.Lib.WritesUnit
public import Idealize.ShloMosaic.Lib.ValueIdxCore

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (I : Inputs F) (κ : GSem nD τ sig → ℕ)

/-! ## Values -/

/-- The product of one block of `x` with one block of `w`. -/
def prod (X : S1024x1024.Idx → Elt F .bf16) (W : S1024x1024.Idx → Elt F .f32) : S1024x1024.Idx → Elt F .f32 :=
  matmul dot_S1024x1024_S1024x1024_S1024x1024_1_0_0_1_n_n none
    (extf .f32 (X : FVec F S1024x1024 .bf16) bitsLt_bf16_f32 : FVec F S1024x1024 .f32)
    (shapeCast S1024x1024 (W : FVec F S1024x1024 .f32) shapeCasts_S1024x1024_S1024x1024)
    (constant S1024x1024 .f32 0x00000000#32 : FVec F S1024x1024 .f32)

theorem pay8_eq (v : Vec F S1x1024x1024 .bf16) (W : Vec F S1024x1024 .f32) {X : S1024x1024.Idx → Elt F .bf16}
    (h : shapeCast S1024x1024 v shapeCasts_S1x1024x1024_S1024x1024 = X) : k0_pay8 v W = prod X W := by
  subst h; rfl

/-- The product made at step `j` for chunk `n` on device `c`. -/
def res (c : Dev nD) (j : Fin 8) (n : Fin 4) : S1024x1024.Idx → Elt F .f32 := prod (xblk I (nx c j) c) (I.w c j n)

/-- Chunk `n` of the accumulator after step `J`. -/
def accV (c : Dev nD) (n : Fin 4) : ℕ → S1x1024x1024.Idx → Elt F .f32
  | 0 => k0_pay1 (res I c 0 n)
  | J + 1 => if J + 1 = 7 then k0_pay3 (res I c 7 n) (accV c n J) else k0_pay2 (res I c ⟨(J + 1) % 8, Nat.mod_lt _ (by decide)⟩ n) (accV c n J)

/-- What the output window comes to hold. -/
def outV (c : Dev nD) : S1024x4096.Idx → Elt F .f32 := fun y =>
  shapeCast S1024x1024 (accV I c ⟨(y 1).val / 1024, by have : (y 1).val < 4096 := (y 1).isLt; omega⟩ 7 : FVec F S1x1024x1024 .f32) shapeCasts_S1x1024x1024_S1024x1024
    (ix2 (⟨(y 0).val, (y 0).isLt⟩ : Fin 1024) (⟨(y 1).val % 1024, Nat.mod_lt _ (by decide)⟩ : Fin 1024))

/-- A window's contents with column chunk `n` replaced. -/
def put (n : Fin 4) (W : S1024x1024.Idx → Elt F .f32) (D : S1024x4096.Idx → Elt F .f32) : S1024x4096.Idx → Elt F .f32 := fun y =>
  if 1024 * n.val ≤ (y 1).val ∧ (y 1).val < 1024 * n.val + 1024 then
    W (ix2 (⟨(y 0).val, (y 0).isLt⟩ : Fin 1024) (⟨(y 1).val % 1024, Nat.mod_lt _ (by decide)⟩ : Fin 1024)) else D y

theorem put_all (c : Dev nD) (D : S1024x4096.Idx → Elt F .f32) :
    put 3 (k0_pay7 (accV I c 3 7)) (put 2 (k0_pay6 (accV I c 2 7)) (put 1 (k0_pay5 (accV I c 1 7)) (put 0 (k0_pay4 (accV I c 0 7)) D))) = outV I c := by
  funext y
  have h1 : (y 1).val < 4096 := (y 1).isLt
  have key : ∀ n : Fin 4, (y 1).val / 1024 = n.val → (⟨(y 1).val / 1024, by omega⟩ : Fin 4) = n := fun n h => Fin.ext h
  unfold put outV
  by_cases c3 : 3072 ≤ (y 1).val
  · rw [if_pos (by constructor <;> simp <;> omega), key 3 (by simp; omega)]; rfl
  · rw [if_neg (by simp; omega)]
    by_cases c2 : 2048 ≤ (y 1).val
    · rw [if_pos (by constructor <;> simp <;> omega), key 2 (by simp; omega)]; rfl
    · rw [if_neg (by simp; omega)]
      by_cases c1 : 1024 ≤ (y 1).val
      · rw [if_pos (by constructor <;> simp <;> omega), key 1 (by simp; omega)]; rfl
      · rw [if_neg (by simp; omega), if_pos (by constructor <;> simp <;> omega), key 0 (by simp; omega)]; rfl

/-! ## The accumulator's chunks -/

/-- Chunk `n` of the accumulator holding `Y`. -/
def chunkPts (c : Dev nD) (n : Fin 4) (Y : S1x1024x1024.Idx → Elt F .f32) : sProp 𝕄 :=
  iprop(∃ f : Buf (Elt F) ((accM.access (chunkR n)).loc (c : Thread nD τ)), ⌜(accM.access (chunkR n)).read (Elt F) f = Y⌝
    ∗ ((accM.access (chunkR n)).loc (c : Thread nD τ) ↦[(accM.access (chunkR n)).set]{fullShare} f))

/-- Chunk `n` after `J` steps. -/
def accSt (c : Dev nD) (n : Fin 4) : ℕ → sProp 𝕄
  | 0 => iprop(∃ Y, chunkPts (F := F) c n Y)
  | J + 1 => chunkPts c n (accV I c n J)

/-- The accumulator before point `t`. -/
def Acc (c : Dev nD) (t : ℕ) : sProp 𝕄 := bigSep (Finset.univ : Finset (Fin 4)) fun n => accSt I c n ((t + 3 - n.val) / 4)

theorem accSt_any (c : Dev nD) (n : Fin 4) (J : ℕ) : accSt I c n J ⊢ iprop(∃ Y, chunkPts (F := F) c n Y) := by
  cases J with
  | zero => exact .rfl
  | succ J => unfold accSt; iintro H; iexists _; iexact H

/-- Loading a chunk. -/
theorem wp_chunk_load (c : Dev nD) (n : Fin 4) {Y : S1x1024x1024.Idx → Elt F .f32} {off : Fin 3 → Nat} {h : ∀ a, off a + S1x1024x1024.size a ≤ S4x1024x1024.size a}
    (e : off = ![n.val, 0, 0]) {hl : accM.view.LoadsAt (Rect.unit (s := S4x1024x1024) off S1x1024x1024.size h).toLoadRect}
    {α : Type} {Q : α → sProp 𝕄} {k : (S1x1024x1024.Idx → Elt F .f32) → Prog (TpuEff nD τ sig (Elt F) Λ₀ .tc) α} :
    iprop(chunkPts c n Y ∗ (chunkPts c n Y -∗ wp frame (wpE (defs₀ (F := F)) 𝒱₀ (c : Thread nD τ) none) Set.univ (k Y) Q))
      ⊢ wp frame (wpE (defs₀ (F := F)) 𝒱₀ (c : Thread nD τ) none) Set.univ
          (.op (.load accM (Rect.unit (s := S4x1024x1024) off S1x1024x1024.size h).toLoadRect hl) k) Q := by
  subst e
  unfold chunkPts
  iintro ⟨⟨%f, %hf, H⟩, Hk⟩
  iapply (wp_load_rect 𝒱₀ (c : Thread nD τ) none Set.univ (m := accM) (r := chunkR n) (f := f) (Finset.Subset.refl _)) $$ [H]
  · iexact H
  iintro H
  rw [hf]
  iapply Hk
  iexists f; isplitr; · ipureintro; exact hf
  iexact H

/-- Storing a chunk. -/
theorem wp_chunk_store (c : Dev nD) (n : Fin 4) {Y w : S1x1024x1024.Idx → Elt F .f32} {off : Fin 3 → Nat} {h : ∀ a, off a + S1x1024x1024.size a ≤ S4x1024x1024.size a}
    (e : off = ![n.val, 0, 0]) {hx : (accM.access (Rect.unit (s := S4x1024x1024) off S1x1024x1024.size h)).Stores Finset.univ} {hm}
    {α : Type} {Q : α → sProp 𝕄} {k : PUnit → Prog (TpuEff nD τ sig (Elt F) Λ₀ .tc) α} :
    iprop(chunkPts c n Y ∗ (chunkPts c n w -∗ wp frame (wpE (defs₀ (F := F)) 𝒱₀ (c : Thread nD τ) none) Set.univ (k ⟨⟩) Q))
      ⊢ wp frame (wpE (defs₀ (F := F)) 𝒱₀ (c : Thread nD τ) none) Set.univ
          (.op (.store accM (Rect.unit (s := S4x1024x1024) off S1x1024x1024.size h) w Finset.univ hx hm) k) Q := by
  subst e
  unfold chunkPts
  iintro ⟨⟨%f, %hf, H⟩, Hk⟩
  iapply (wp_store 𝒱₀ (c : Thread nD τ) none Set.univ (m := accM) (r := chunkR n) (f := f) (S := (accM.access (chunkR n)).set) (View.setOn_subset_set _ _)) $$ [H]
  · iexact H
  iintro H
  iapply Hk
  iexists _; isplitr
  rotate_left
  · iexact H
  · ipureintro; rw [View.read_write_univ]

/-- Loading a landing slot. -/
theorem wp_slot_load (c : Dev nD) (n : Fin 8) {X : S1024x1024.Idx → Elt F .bf16} {off : Fin 3 → Nat} {h : ∀ a, off a + S1x1024x1024.size a ≤ S8x1024x1024.size a}
    (e : off = ![n.val, 0, 0]) {hl : recvM.view.LoadsAt (Rect.unit (s := S8x1024x1024) off S1x1024x1024.size h).toLoadRect}
    {α : Type} {Q : α → sProp 𝕄} {k : (S1x1024x1024.Idx → Elt F .bf16) → Prog (TpuEff nD τ sig (Elt F) Λ₀ .tc) α} :
    iprop(slotPts c n X ∗ (∀ v : S1x1024x1024.Idx → Elt F .bf16, ⌜shapeCast S1024x1024 v shapeCasts_S1x1024x1024_S1024x1024 = X⌝ -∗ slotPts c n X
        -∗ wp frame (wpE (defs₀ (F := F)) 𝒱₀ (c : Thread nD τ) none) Set.univ (k v) Q))
      ⊢ wp frame (wpE (defs₀ (F := F)) 𝒱₀ (c : Thread nD τ) none) Set.univ
          (.op (.load recvM (Rect.unit (s := S8x1024x1024) off S1x1024x1024.size h).toLoadRect hl) k) Q := by
  subst e
  unfold slotPts owns
  iintro ⟨⟨%f, %hf, H⟩, Hk⟩
  iapply (wp_load_rect 𝒱₀ (c : Thread nD τ) none Set.univ (m := recvM) (r := slotR n) (f := f) (S := (slotM n).view.set)
    ((View.set_reshape (recvM.access (slotR n)) _).symm.subset)) $$ [H]
  · iexact H
  iintro H
  iapply Hk $$ [] [H]
  · ipureintro; exact hf
  iexists f; isplitr; · ipureintro; exact hf
  iexact H

/-- Loading the whole of a window of one block. -/
theorem wp_win_load (c : Dev nD) {m : Memref sig .tc .vmem S1024x1024 .f32} {W : S1024x1024.Idx → Elt F .f32} {off : Fin 2 → Nat}
    {h : ∀ a, off a + S1024x1024.size a ≤ S1024x1024.size a} {hl : m.view.LoadsAt (Rect.unit (s := S1024x1024) off S1024x1024.size h).toLoadRect}
    {α : Type} {Q : α → sProp 𝕄} {k : (S1024x1024.Idx → Elt F .f32) → Prog (TpuEff nD τ sig (Elt F) Λ₀ .tc) α} :
    iprop(owns (c : Thread nD τ) m fullShare W ∗ (owns (c : Thread nD τ) m fullShare W -∗ wp frame (wpE (defs₀ (F := F)) 𝒱₀ (c : Thread nD τ) none) Set.univ (k W) Q))
      ⊢ wp frame (wpE (defs₀ (F := F)) 𝒱₀ (c : Thread nD τ) none) Set.univ
          (.op (.load m (Rect.unit (s := S1024x1024) off S1024x1024.size h).toLoadRect hl) k) Q := by
  unfold owns
  iintro ⟨⟨%f, %hf, H⟩, Hk⟩
  iapply (wp_load 𝒱₀ (c : Thread nD τ) none Set.univ (m := m) (f := f) (S := m.view.set) (View.setOn_subset_set _ _)) $$ [H]
  · iexact H
  iintro H
  rw [View.readAt_full, hf]
  iapply Hk
  iexists f; isplitr; · ipureintro; exact hf
  iexact H

/-- A load of part of the output window, whose value is not used. -/
theorem wp_out_load (c : Dev nD) {m : Memref sig .tc .vmem S1024x4096 .f32} {D : S1024x4096.Idx → Elt F .f32} {r : LoadRect S1024x4096} {hl : m.view.LoadsAt r}
    {α : Type} {Q : α → sProp 𝕄} {k : (r.shape.Idx → Elt F .f32) → Prog (TpuEff nD τ sig (Elt F) Λ₀ .tc) α} :
    iprop(owns (c : Thread nD τ) m fullShare D ∗ (∀ v, owns (c : Thread nD τ) m fullShare D -∗ wp frame (wpE (defs₀ (F := F)) 𝒱₀ (c : Thread nD τ) none) Set.univ (k v) Q))
      ⊢ wp frame (wpE (defs₀ (F := F)) 𝒱₀ (c : Thread nD τ) none) Set.univ (.op (.load m r hl) k) Q := by
  unfold owns
  iintro ⟨⟨%f, %hf, H⟩, Hk⟩
  iapply (wp_load 𝒱₀ (c : Thread nD τ) none Set.univ (m := m) (f := f) (S := m.view.set) (View.setOn_subset_set _ _)) $$ [H]
  · iexact H
  iintro H
  iapply Hk
  iexists f; isplitr; · ipureintro; exact hf
  iexact H

/-- Storing one column chunk of the output window. -/
theorem wp_out_store (c : Dev nD) (n : Fin 4) {m : Memref sig .tc .vmem S1024x4096 .f32} {D : S1024x4096.Idx → Elt F .f32} {w : S1024x1024.Idx → Elt F .f32}
    {off : Fin 2 → Nat} {h : ∀ a, off a + S1024x1024.size a ≤ S1024x4096.size a} (e : off = ![0, 1024 * n.val])
    {hx : (m.access (Rect.unit (s := S1024x4096) off S1024x1024.size h)).Stores Finset.univ} {hm}
    {α : Type} {Q : α → sProp 𝕄} {k : PUnit → Prog (TpuEff nD τ sig (Elt F) Λ₀ .tc) α} :
    iprop(owns (c : Thread nD τ) m fullShare D ∗ (owns (c : Thread nD τ) m fullShare (put n w D) -∗ wp frame (wpE (defs₀ (F := F)) 𝒱₀ (c : Thread nD τ) none) Set.univ (k ⟨⟩) Q))
      ⊢ wp frame (wpE (defs₀ (F := F)) 𝒱₀ (c : Thread nD τ) none) Set.univ
          (.op (.store m (Rect.unit (s := S1024x4096) off S1024x1024.size h) w Finset.univ hx hm) k) Q := by
  unfold owns
  iintro ⟨⟨%f, %hf, H⟩, Hk⟩
  iapply (wp_store 𝒱₀ (c : Thread nD τ) none Set.univ (m := m) (r := Rect.unit (s := S1024x4096) off S1024x1024.size h) (f := f) (S := m.view.set)
    ((View.setOn_subset_set _ _).trans (View.set_slice_subset _ _))) $$ [H]
  · iexact H
  iintro H
  iapply Hk
  iexists _; isplitr
  rotate_left
  · iexact H
  · ipureintro
    funext y
    have h1 : (y 1).val < 4096 := (y 1).isLt
    have hn := n.isLt
    show m.view.read (Elt F) (m.view.writes (Elt F) f [⟨Rect.unit (s := S1024x4096) off S1024x1024.size h, w⟩]) y = _
    unfold put
    by_cases hc : 1024 * n.val ≤ (y 1).val ∧ (y 1).val < 1024 * n.val + 1024
    · rw [if_pos hc]
      refine View.read_writes_cons_unit_of_mem m.view f h w [] y _ e (Fin.forall_fin_two.mpr ⟨?_, ?_⟩)
      · show (y 0).val = 0 + (y 0).val
        omega
      · show (y 1).val = 1024 * n.val + (y 1).val % 1024
        omega
    · rw [if_neg hc]
      refine (View.read_writes_cons_unit_of_not_mem m.view f h w [] y e 1 ?_).trans ?_
      · show (y 1).val < 1024 * n.val ∨ 1024 * n.val + 1024 ≤ (y 1).val
        omega
      · exact congrFun hf y

/-- The slot taken up at step `j`, out of what has come in. -/
theorem slots_take (c : Dev nD) (j : Fin 8) :
    iprop(In I c (j.val + 1) ∗ loc2 I c)
      ⊢ iprop(slotPts c (nx c j) (xblk I (nx c j) c) ∗ (slotPts c (nx c j) (xblk I (nx c j) c) -∗ (In I c (j.val + 1) ∗ loc2 I c))) := by
  by_cases hj : j = 0
  · subst hj
    rw [nx_zero]
    unfold loc2
    iintro ⟨HI, HS, Hat⟩
    isplitl [HS]; · iexact HS
    iintro HS
    isplitl [HI]; · iexact HI
    isplitl [HS]; · iexact HS
    iexact Hat
  · unfold In
    iintro ⟨HI, HL⟩
    ihave H := (bigSep_swap (mem_offs hj) (Φ := fun o => if o.val < j.val + 1 then arrived I c o else expecting (F := F) c o)
      (Ψ := fun o => if o.val < j.val + 1 then arrived I c o else expecting (F := F) c o) (fun _ _ _ => rfl)) $$ HI
    rw [if_pos (Nat.lt_succ_self _)]
    unfold arrived
    icases H with ⟨⟨HS, Hat⟩, Hback⟩
    isplitl [HS]; · iexact HS
    iintro HS
    isplitl [HS Hat Hback]
    · iapply Hback
      isplitl [HS]; · iexact HS
      iexact Hat
    iexact HL

end Cert.KernelIdeal.Exchange

end
-- ==== Proof.Ideal.Body3.lean ====
module

public import proofs.«01_k».proof.Proof.Ideal.Acc

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (κ : GSem nD τ sig → ℕ)

theorem off28_eq : ∀ k : Fin 8, k0_off28 (BitVec.ofNat 32 k.val) = ![k.val] := by decide +kernel
theorem off29_eq : ∀ k : Fin 8, k0_off29 (BitVec.ofNat 32 k.val) = ![k.val, 0, 0] := by decide +kernel
theorem off30_eq : ∀ k : Fin 8, k0_off30 (BitVec.ofNat 32 k.val) = ![k.val, 0, 0] := by decide +kernel

/-- The wait for the local copy, at the first point. -/
theorem local_if (c : Dev nD) (t n : ℕ) {b : Prop} [Decidable b] (hb : b ↔ t = 0)
    {α : Type} {A : b → Prog (TpuEff nD τ sig (Elt F) Λ₀ .tc) α} {K : Prog (TpuEff nD τ sig (Elt F) Λ₀ .tc) α} {Q : α → sProp 𝕄}
    (hA : ∀ h, iprop(Inv I κ ∗ levAts L lv ∗ (loc1 c ∗ owesAny c (owed c n))
        ∗ ((loc2 I c ∗ owesAny c (owed c n)) -∗ wp frame (wpE (defs₀ (F := F)) 𝒱₀ (c : Thread nD τ) none) Set.univ K Q))
      ⊢ wp frame (wpE (defs₀ (F := F)) 𝒱₀ (c : Thread nD τ) none) Set.univ (A h) Q) :
    iprop((Inv I κ ∗ levAts L lv) ∗ (LB I c t ∗ OutO I c n)
        ∗ ((loc2 I c ∗ OutO I c n) -∗ wp frame (wpE (defs₀ (F := F)) 𝒱₀ (c : Thread nD τ) none) Set.univ K Q))
      ⊢ wp frame (wpE (defs₀ (F := F)) 𝒱₀ (c : Thread nD τ) none) Set.univ (if h : b then A h else K) Q := by
  unfold OutO
  refine wp_join c _ _ _ (fun h => ?_) fun h => ?_
  · unfold LB
    rw [if_pos (hb.1 h)]
    iintro ⟨⟨#HI, #HL⟩, ⟨Hl, Hout, HO⟩, HK⟩
    iapply (hA h)
    isplitr; · iexact HI
    isplitr; · iexact HL
    isplitl [Hl HO]; · (isplitl [Hl]; · iexact Hl); iexact HO
    iintro ⟨Hl, HO⟩
    iapply HK
    isplitl [Hl]; · iexact Hl
    isplitl [Hout]; · iexact Hout
    iexact HO
  · unfold LB
    rw [if_neg fun h' => h (hb.2 h')]

/-- The wait for an arrival, at the first point of a step past the first. -/
theorem recv_if (c : Dev nD) (t : Fin grid0.N) (n : ℕ) (hn : (t.val % 4 = 0 ∧ t.val ≠ 0) → t.val / 4 ≤ n) {b : Prop} [Decidable b] (hb : b ↔ (t.val % 4 = 0 ∧ t.val ≠ 0))
    {α : Type} {A : b → Prog (TpuEff nD τ sig (Elt F) Λ₀ .tc) α} {K : Prog (TpuEff nD τ sig (Elt F) Λ₀ .tc) α} {Q : α → sProp 𝕄}
    (hA : ∀ (h : b) (hj : jOf t ≠ 0) (hn' : (jOf t).val ≤ n), iprop(Inv I κ ∗ levAts L lv ∗ (In I c (jOf t).val ∗ owesAny c (owed c n))
        ∗ ((In I c ((jOf t).val + 1) ∗ owesAny c (owed c n)) -∗ wp frame (wpE (defs₀ (F := F)) 𝒱₀ (c : Thread nD τ) none) Set.univ K Q))
      ⊢ wp frame (wpE (defs₀ (F := F)) 𝒱₀ (c : Thread nD τ) none) Set.univ (A h) Q) :
    iprop((Inv I κ ∗ levAts L lv) ∗ (In I c (inB t.val) ∗ OutO I c n)
        ∗ ((In I c ((jOf t).val + 1) ∗ OutO I c n) -∗ wp frame (wpE (defs₀ (F := F)) 𝒱₀ (c : Thread nD τ) none) Set.univ K Q))
      ⊢ wp frame (wpE (defs₀ (F := F)) 𝒱₀ (c : Thread nD τ) none) Set.univ (if h : b then A h else K) Q := by
  unfold OutO
  refine wp_join c _ _ _ (fun h => ?_) fun h => ?_
  · have h' := hb.1 h
    have hj : jOf t ≠ 0 := fun e => by
      have e' : t.val / 4 = 0 := congrArg Fin.val e
      omega
    have hin : inB t.val = (jOf t).val := if_pos h'
    rw [hin]
    iintro ⟨⟨#HI, #HL⟩, ⟨Hi, Hout, HO⟩, HK⟩
    iapply (hA h hj (hn h'))
    isplitr; · iexact HI
    isplitr; · iexact HL
    isplitl [Hi HO]; · (isplitl [Hi]; · iexact Hi); iexact HO
    iintro ⟨Hi, HO⟩
    iapply HK
    isplitl [Hi]; · iexact Hi
    isplitl [Hout]; · iexact Hout
    iexact HO
  · have hin : inB t.val = (jOf t).val + 1 := if_neg fun h' => h (hb.2 h')
    rw [hin]

set_option maxHeartbeats 4000000 in
/-- The body's second part: the later sends, the two waits, and the product. -/
theorem part5_spec (c : Dev nD) (t : Fin grid0.N)
    (arg4 : Memref sig .tc .vmem S1024x1024 .f32) (harg4 : arg4.IsWhole) (arg5 : Memref sig .tc .vmem S1024x4096 .f32) (harg5 : arg5.IsWhole)
    (h2 : (Memref.whole main_v10).IsWhole) (h3 : (Memref.whole main_v1).IsWhole) (h6 : (Memref.whole cc0_scratch0).IsWhole) (h7 : (Memref.whole cc0_scratch1).IsWhole)
    (a0 a1 v2 : BitVec 32) (hw : k0_chk1 (grid0.coords t) (BitVec.ofNat 32 (nx c (jOf t)).val))
    {Q : (Σ' (v64 : FVec F S1024x1024 .f32), BitVec 1) → sProp 𝕄} :
    iprop((Inv I κ ∗ levAts L lv) ∗ (OutO I c (st t.val 3) ∗ LB I c t.val) ∗ In I c (inB t.val) ∗ owns (c : Thread nD τ) arg4 fullShare (I.w c (jOf t) (nOf t))
        ∗ (∀ v65 : BitVec 1, (OutO I c (st t.val 7) ∗ loc2 I c ∗ In I c ((jOf t).val + 1) ∗ owns (c : Thread nD τ) arg4 fullShare (I.w c (jOf t) (nOf t)))
              -∗ Q ⟨res I c (jOf t) (nOf t), v65⟩))
      ⊢ wp frame (wpE (defs₀ (F := F)) 𝒱₀ (c : Thread nD τ) none) Set.univ
          (k0_part5 (grid0.coords t) (Memref.whole main_v10) h2 (Memref.whole main_v1) h3 arg4 harg4 arg5 harg5
            (Memref.whole cc0_scratch0) h6 (Memref.whole cc0_scratch1) h7 cc0_scratch2 cc0_scratch3 cc0_scratch4 a0 a1 c v2 (BitVec.ofNat 32 (nx c (jOf t)).val) hw) Q := by
  rw [k0_part5_eq_skeleton]
  unfold k0_part5_skel
  simp only [Prog.lift, Prog.bind_op, Prog.bind_ret, Prog.pure_eq_ret]
  iintro ⟨⟨#HI, #HL⟩, ⟨HO, Hloc⟩, Hin, Hw, HQ⟩
  iapply (wp_send_if I κ c 4 (by decide) (c5 t) (fun h hs => wp_send_step I κ c 4 (by decide) _ hs (Fin.ext (k0_dev11_eq c))
      (rows_of (pr c 4) _ (k0_off16_eq c)) (slot_of c _ (k0_off15_eq c)) (send_of 4 _ rfl) (recv_of c _ (k0_off14_eq c))))
  isplitr; · iexact HI
  isplitl [HO]; · iexact HO
  iintro HO
  iapply (wp_send_if I κ c 5 (by decide) (c6 t) (fun h hs => wp_send_step I κ c 5 (by decide) _ hs (Fin.ext (k0_dev12_eq c))
      (rows_of (pr c 5) _ (k0_off19_eq c)) (slot_of c _ (k0_off18_eq c)) (send_of 5 _ rfl) (recv_of c _ (k0_off17_eq c))))
  isplitr; · iexact HI
  isplitl [HO]; · iexact HO
  iintro HO
  iapply (wp_send_if I κ c 6 (by decide) (c7 t) (fun h hs => wp_send_step I κ c 6 (by decide) _ hs (Fin.ext (k0_dev13_eq c))
      (rows_of (pr c 6) _ (k0_off22_eq c)) (slot_of c _ (k0_off21_eq c)) (send_of 6 _ rfl) (recv_of c _ (k0_off20_eq c))))
  isplitr; · iexact HI
  isplitl [HO]; · iexact HO
  iintro HO
  iapply (wp_send_if I κ c 7 (by decide) (c8 t) (fun h hs => wp_send_step I κ c 7 (by decide) _ hs (Fin.ext (k0_dev14_eq c))
      (rows_of (pr c 7) _ (k0_off25_eq c)) (slot_of c _ (k0_off24_eq c)) (send_of 7 _ rfl) (recv_of c _ (k0_off23_eq c))))
  isplitr; · iexact HI
  isplitl [HO]; · iexact HO
  iintro HO
  iapply (local_if I κ c t.val (st t.val 7) (c9 t) (fun h => wp_local_wait I κ c _ (slot_of c _ (k0_off26_eq c)) locD_eq))
  isplitr
  · isplitr; · iexact HI
    iexact HL
  isplitl [HO Hloc]; · (isplitl [Hloc]; · iexact Hloc); iexact HO
  iintro ⟨Hloc, HO⟩
  iapply (recv_if I κ c t (st t.val 7) (st_recv t) (c10 t) (fun h hj hn => wp_recv_wait I κ c (jOf t) hj _ hn
      (slot_of (nx c (jOf t)) _ (off29_eq (nx c (jOf t)))) (recv_of (nx c (jOf t)) _ (off28_eq (nx c (jOf t))))))
  isplitr
  · isplitr; · iexact HI
    iexact HL
  isplitl [HO Hin]; · (isplitl [Hin]; · iexact Hin); iexact HO
  iintro ⟨Hin, HO⟩
  ihave H := (slots_take I c (jOf t)) $$ [Hin Hloc]
  · isplitl [Hin]; · iexact Hin
    iexact Hloc
  icases H with ⟨HS, Hback⟩
  iapply (wp_slot_load c (nx c (jOf t)) (off30_eq (nx c (jOf t))))
  isplitl [HS]; · iexact HS
  iintro %v %hv HS
  iapply (wp_win_load c)
  isplitl [Hw]; · iexact Hw
  iintro Hw
  have hp : k0_pay8 v (I.w c (jOf t) (nOf t)) = res I c (jOf t) (nOf t) := pay8_eq v _ hv
  rw [hp, wp_ret]
  imodintro
  ihave H := Hback $$ HS
  icases H with ⟨Hin, Hloc⟩
  iapply HQ
  isplitl [HO]; · iexact HO
  isplitl [Hloc]; · iexact Hloc
  isplitl [Hin]; · iexact Hin
  iexact Hw

end Cert.KernelIdeal.Exchange

end
-- ==== Proof.Ideal.Body4.lean ====
module

public import proofs.«01_k».proof.Proof.Ideal.Body3

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (κ : GSem nD τ sig → ℕ)

theorem off31_eq (t : Fin grid0.N) : k0_off31 (grid0.coords t) = ![(nOf t).val, 0, 0] := by revert t; decide +kernel
theorem off32_eq (t : Fin grid0.N) : k0_off32 (grid0.coords t) = ![(nOf t).val, 0, 0] := by revert t; decide +kernel
theorem off33_eq (t : Fin grid0.N) : k0_off33 (grid0.coords t) = ![(nOf t).val, 0, 0] := by revert t; decide +kernel
theorem off35_eq (c : Dev nD) : k0_off35 c = ![c.val, 0, 0] := by revert c; decide +kernel
theorem off34_1 (c : Dev nD) : k0_off34 c 1#32 = ![1024 * (pr c 1).val, 0] := by revert c; decide +kernel
theorem off34_2 (c : Dev nD) : k0_off34 c 2#32 = ![1024 * (pr c 2).val, 0] := by revert c; decide +kernel
theorem off34_3 (c : Dev nD) : k0_off34 c 3#32 = ![1024 * (pr c 3).val, 0] := by revert c; decide +kernel
theorem off34_4 (c : Dev nD) : k0_off34 c 4#32 = ![1024 * (pr c 4).val, 0] := by revert c; decide +kernel
theorem off34_5 (c : Dev nD) : k0_off34 c 5#32 = ![1024 * (pr c 5).val, 0] := by revert c; decide +kernel
theorem off34_6 (c : Dev nD) : k0_off34 c 6#32 = ![1024 * (pr c 6).val, 0] := by revert c; decide +kernel
theorem off34_7 (c : Dev nD) : k0_off34 c 7#32 = ![1024 * (pr c 7).val, 0] := by revert c; decide +kernel

/-- The chunk taken up at point `t`, out of the accumulator. -/
theorem acc_take (c : Dev nD) (t : Fin grid0.N) :
    Acc I c t.val ⊢ iprop(accSt I c (nOf t) (jOf t).val ∗ (accSt I c (nOf t) ((jOf t).val + 1) -∗ Acc I c (t.val + 1))) := by
  unfold Acc
  iintro H
  ihave H := (bigSep_swap (Finset.mem_univ (nOf t)) (Φ := fun n : Fin 4 => accSt I c n ((t.val + 3 - n.val) / 4))
    (Ψ := fun n : Fin 4 => accSt I c n ((t.val + 1 + 3 - n.val) / 4)) (fun n _ hn => by
      have hn' : n.val ≠ t.val % 4 := fun h => hn (Fin.ext h)
      have := n.isLt
      rw [show (t.val + 1 + 3 - n.val) / 4 = (t.val + 3 - n.val) / 4 from by omega])) $$ H
  rw [show (t.val + 3 - (nOf t).val) / 4 = (jOf t).val from by show (t.val + 3 - t.val % 4) / 4 = t.val / 4; omega,
    show (t.val + 1 + 3 - (nOf t).val) / 4 = (jOf t).val + 1 from by show (t.val + 1 + 3 - t.val % 4) / 4 = t.val / 4 + 1; omega]
  iexact H

/-- The three ways the chunk is brought on, one of them taken, before a shared rest. -/
theorem wp_three (c : Dev nD) (old new : sProp 𝕄) {b1 b2 b3 : Prop} [Decidable b1] [Decidable b2] [Decidable b3]
    (h12 : b1 → ¬ b2) (h13 : b1 → ¬ b3) (h23 : b2 → ¬ b3) (hall : b1 ∨ b2 ∨ b3) {α : Type}
    {A1 : b1 → Prog (TpuEff nD τ sig (Elt F) Λ₀ .tc) α} {A2 : b2 → Prog (TpuEff nD τ sig (Elt F) Λ₀ .tc) α} {A3 : b3 → Prog (TpuEff nD τ sig (Elt F) Λ₀ .tc) α}
    {K : Prog (TpuEff nD τ sig (Elt F) Λ₀ .tc) α} {Q : α → sProp 𝕄}
    (hA1 : ∀ h, iprop(old ∗ (new -∗ wp frame (wpE (defs₀ (F := F)) 𝒱₀ (c : Thread nD τ) none) Set.univ (if h : b2 then A2 h else if h : b3 then A3 h else K) Q))
      ⊢ wp frame (wpE (defs₀ (F := F)) 𝒱₀ (c : Thread nD τ) none) Set.univ (A1 h) Q)
    (hA2 : ∀ h, iprop(old ∗ (new -∗ wp frame (wpE (defs₀ (F := F)) 𝒱₀ (c : Thread nD τ) none) Set.univ (if h : b3 then A3 h else K) Q))
      ⊢ wp frame (wpE (defs₀ (F := F)) 𝒱₀ (c : Thread nD τ) none) Set.univ (A2 h) Q)
    (hA3 : ∀ h, iprop(old ∗ (new -∗ wp frame (wpE (defs₀ (F := F)) 𝒱₀ (c : Thread nD τ) none) Set.univ K Q))
      ⊢ wp frame (wpE (defs₀ (F := F)) 𝒱₀ (c : Thread nD τ) none) Set.univ (A3 h) Q) :
    iprop(old ∗ (new -∗ wp frame (wpE (defs₀ (F := F)) 𝒱₀ (c : Thread nD τ) none) Set.univ K Q))
      ⊢ wp frame (wpE (defs₀ (F := F)) 𝒱₀ (c : Thread nD τ) none) Set.univ (if h : b1 then A1 h else if h : b2 then A2 h else if h : b3 then A3 h else K) Q := by
  by_cases h1 : b1
  · rw [dif_pos h1]
    refine .trans ?_ (hA1 h1)
    rw [dif_neg (h12 h1), dif_neg (h13 h1)]
  · rw [dif_neg h1]
    by_cases h2 : b2
    · rw [dif_pos h2]
      refine .trans ?_ (hA2 h2)
      rw [dif_neg (h23 h2)]
    · rw [dif_neg h2, dif_pos ((hall.resolve_left h1).resolve_left h2)]
      exact hA3 _

/-- The first step's store. -/
theorem acc_first (c : Dev nD) (n : Fin 4) (j : Fin 8) (hj : j.val = 0) {off : Fin 3 → Nat} {h : ∀ a, off a + S1x1024x1024.size a ≤ S4x1024x1024.size a}
    (e : off = ![n.val, 0, 0]) {hl : accM.view.LoadsAt (Rect.unit (s := S4x1024x1024) off S1x1024x1024.size h).toLoadRect}
    {hx : (accM.access (Rect.unit (s := S4x1024x1024) off S1x1024x1024.size h)).Stores Finset.univ} {hm}
    {α : Type} {Q : α → sProp 𝕄} {K : Prog (TpuEff nD τ sig (Elt F) Λ₀ .tc) α} :
    iprop(accSt I c n j.val ∗ (accSt I c n (j.val + 1) -∗ wp frame (wpE (defs₀ (F := F)) 𝒱₀ (c : Thread nD τ) none) Set.univ K Q))
      ⊢ wp frame (wpE (defs₀ (F := F)) 𝒱₀ (c : Thread nD τ) none) Set.univ
          (.op (.load accM (Rect.unit (s := S4x1024x1024) off S1x1024x1024.size h).toLoadRect hl) fun _ =>
            .op (.store accM (Rect.unit (s := S4x1024x1024) off S1x1024x1024.size h) (k0_pay1 (res I c j n)) Finset.univ hx hm) fun _ => K) Q := by
  obtain rfl : j = 0 := Fin.ext hj
  show iprop(accSt I c n 0 ∗ (chunkPts c n (k0_pay1 (res I c 0 n)) -∗ _)) ⊢ _
  iintro ⟨Hold, Hk⟩
  ihave Hold := (accSt_any I c n _) $$ Hold
  icases Hold with ⟨%Y, Hold⟩
  iapply (wp_chunk_load c n e)
  isplitl [Hold]; · iexact Hold
  iintro Hold
  iapply (wp_chunk_store c n e)
  isplitl [Hold]; · iexact Hold
  iintro H
  iapply Hk
  iexact H

/-- A middle step's load and store. -/
theorem acc_mid (c : Dev nD) (n : Fin 4) (j : Fin 8) (hj : j.val ≠ 0 ∧ j.val ≠ 7) {off : Fin 3 → Nat} {h : ∀ a, off a + S1x1024x1024.size a ≤ S4x1024x1024.size a}
    (e : off = ![n.val, 0, 0]) {hl hl' : accM.view.LoadsAt (Rect.unit (s := S4x1024x1024) off S1x1024x1024.size h).toLoadRect}
    {hx : (accM.access (Rect.unit (s := S4x1024x1024) off S1x1024x1024.size h)).Stores Finset.univ} {hm}
    {α : Type} {Q : α → sProp 𝕄} {K : Prog (TpuEff nD τ sig (Elt F) Λ₀ .tc) α} :
    iprop(accSt I c n j.val ∗ (accSt I c n (j.val + 1) -∗ wp frame (wpE (defs₀ (F := F)) 𝒱₀ (c : Thread nD τ) none) Set.univ K Q))
      ⊢ wp frame (wpE (defs₀ (F := F)) 𝒱₀ (c : Thread nD τ) none) Set.univ
          (.op (.load accM (Rect.unit (s := S4x1024x1024) off S1x1024x1024.size h).toLoadRect hl) fun v =>
            .op (.load accM (Rect.unit (s := S4x1024x1024) off S1x1024x1024.size h).toLoadRect hl') fun _ =>
            .op (.store accM (Rect.unit (s := S4x1024x1024) off S1x1024x1024.size h) (k0_pay2 (res I c j n) v) Finset.univ hx hm) fun _ => K) Q := by
  obtain ⟨j, hlt⟩ := j
  obtain ⟨J, rfl⟩ : ∃ J, j = J + 1 := ⟨j - 1, by have := hj.1; dsimp only at this; omega⟩
  have hv : accV I c n (J + 1) = k0_pay2 (res I c ⟨J + 1, hlt⟩ n) (accV I c n J) := by
    show (if J + 1 = 7 then _ else _) = _
    rw [if_neg hj.2]
    have : (⟨(J + 1) % 8, Nat.mod_lt _ (by decide)⟩ : Fin 8) = ⟨J + 1, hlt⟩ := Fin.ext (Nat.mod_eq_of_lt hlt)
    rw [this]
  show iprop(chunkPts c n (accV I c n J) ∗ (chunkPts c n (accV I c n (J + 1)) -∗ _)) ⊢ _
  rw [hv]
  iintro ⟨Hold, Hk⟩
  iapply (wp_chunk_load c n e)
  isplitl [Hold]; · iexact Hold
  iintro Hold
  iapply (wp_chunk_load c n e)
  isplitl [Hold]; · iexact Hold
  iintro Hold
  iapply (wp_chunk_store c n e)
  isplitl [Hold]; · iexact Hold
  iintro H
  iapply Hk
  iexact H

/-- The last step's load and store. -/
theorem acc_last (c : Dev nD) (n : Fin 4) (j : Fin 8) (hj : j.val = 7) {off : Fin 3 → Nat} {h : ∀ a, off a + S1x1024x1024.size a ≤ S4x1024x1024.size a}
    (e : off = ![n.val, 0, 0]) {hl hl' : accM.view.LoadsAt (Rect.unit (s := S4x1024x1024) off S1x1024x1024.size h).toLoadRect}
    {hx : (accM.access (Rect.unit (s := S4x1024x1024) off S1x1024x1024.size h)).Stores Finset.univ} {hm}
    {α : Type} {Q : α → sProp 𝕄} {K : Prog (TpuEff nD τ sig (Elt F) Λ₀ .tc) α} :
    iprop(accSt I c n j.val ∗ (accSt I c n (j.val + 1) -∗ wp frame (wpE (defs₀ (F := F)) 𝒱₀ (c : Thread nD τ) none) Set.univ K Q))
      ⊢ wp frame (wpE (defs₀ (F := F)) 𝒱₀ (c : Thread nD τ) none) Set.univ
          (.op (.load accM (Rect.unit (s := S4x1024x1024) off S1x1024x1024.size h).toLoadRect hl) fun v =>
            .op (.load accM (Rect.unit (s := S4x1024x1024) off S1x1024x1024.size h).toLoadRect hl') fun _ =>
            .op (.store accM (Rect.unit (s := S4x1024x1024) off S1x1024x1024.size h) (k0_pay3 (res I c j n) v) Finset.univ hx hm) fun _ => K) Q := by
  obtain rfl : j = 7 := Fin.ext hj
  have hv : accV I c n 7 = k0_pay3 (res I c 7 n) (accV I c n 6) := if_pos rfl
  show iprop(chunkPts c n (accV I c n 6) ∗ (chunkPts c n (accV I c n 7) -∗ _)) ⊢ _
  rw [hv]
  iintro ⟨Hold, Hk⟩
  iapply (wp_chunk_load c n e)
  isplitl [Hold]; · iexact Hold
  iintro Hold
  iapply (wp_chunk_load c n e)
  isplitl [Hold]; · iexact Hold
  iintro Hold
  iapply (wp_chunk_store c n e)
  isplitl [Hold]; · iexact Hold
  iintro H
  iapply Hk
  iexact H

theorem st_next : ∀ t : Fin grid0.N, t.val ≠ 31 → st (t.val + 1) 0 = st t.val 7 := by decide +kernel
theorem st_last : st 31 7 = 7 := by decide

/-- All sends made, none of the departures waited for. -/
theorem out_left (c : Dev nD) : Out I c 7 ⊢ Left c 0 := by
  unfold Out Left
  rw [bigSep_congr (Φ := fun o : Fin 8 => if o.val ≤ 7 then sent (F := F) c o else pend I c o)
    (Ψ := fun o : Fin 8 => if o.val ≤ 0 then atPos ER (sendC c o) 1 ∅ 0 else sent (F := F) c o) fun o ho => ?_]
  rw [if_pos (by omega), if_neg (fun h => ?_)]
  have h0 : o = 0 := Fin.ext (Nat.le_zero.mp h)
  subst h0
  exact absurd ho (by decide)

/-- The accumulator after the last step, chunk by chunk. -/
theorem acc_done (c : Dev nD) : Acc I c 32 = iprop(chunkPts c 0 (accV I c 0 7) ∗ chunkPts c 1 (accV I c 1 7) ∗ chunkPts c 2 (accV I c 2 7) ∗ chunkPts c 3 (accV I c 3 7)) := by
  unfold Acc
  rw [bigSep_congr (Ψ := fun n : Fin 4 => chunkPts c n (accV I c n 7)) fun n _ => by
    have := n.isLt
    rw [show (32 + 3 - n.val) / 4 = 7 + 1 from by omega]; rfl]
  rw [show (Finset.univ : Finset (Fin 4)) = {0, 1, 2, 3} from by decide,
    bigSep_insert (by decide), bigSep_insert (by decide), bigSep_insert (by decide), bigSep_singleton]
  rfl

/-- What the last point leaves. -/
def Last (c : Dev nD) : sProp 𝕄 :=
  iprop(Left c 7 ∗ owesAny c (owed c 7) ∗ loc2 I c ∗ In I c 8 ∗ Idle c ∗ atPos ER (barC c) 1 ∅ 0 ∗ Acc I c 32)
/-- What any other point leaves to the next. -/
def Next (c : Dev nD) (t : ℕ) : sProp 𝕄 :=
  iprop(Front I c t ∗ owesAny c (owedB c t) ∗ In I c (inB t) ∗ Idle c ∗ Acc I c t)

set_option maxHeartbeats 4000000 in
/-- The body at one point. -/
theorem body_spec (hT : TblOk I) (c : Dev nD) (t : Fin grid0.N)
    (arg4 : Memref sig .tc .vmem S1024x1024 .f32) (harg4 : arg4.IsWhole) (arg5 : Memref sig .tc .vmem S1024x4096 .f32) (harg5 : arg5.IsWhole)
    (h2 : (Memref.whole main_v10).IsWhole) (h3 : (Memref.whole main_v1).IsWhole) (h6 : (Memref.whole cc0_scratch0).IsWhole) (h7 : (Memref.whole cc0_scratch1).IsWhole)
    (D : S1024x4096.Idx → Elt F .f32) :
    iprop((Inv I κ ∗ levAts L lv) ∗ Next I c t.val ∗ Tbl I c ∗ owns (c : Thread nD τ) arg4 fullShare (I.w c (jOf t) (nOf t)) ∗ owns (c : Thread nD τ) arg5 fullShare D)
      ⊢ wp frame (wpE (defs₀ (F := F)) 𝒱₀ (c : Thread nD τ) none) Set.univ
          (cc0_body (grid0.coords t) (Memref.whole main_v10) h2 (Memref.whole main_v1) h3 arg4 harg4 arg5 harg5
            (Memref.whole cc0_scratch0) h6 (Memref.whole cc0_scratch1) h7 cc0_scratch2 cc0_scratch3 cc0_scratch4) fun _ =>
        iprop((if t.val = 31 then Last I c else Next I c (t.val + 1)) ∗ Tbl I c ∗ owns (c : Thread nD τ) arg4 fullShare (I.w c (jOf t) (nOf t))
          ∗ owns (c : Thread nD τ) arg5 fullShare (if t.val = 31 then outV I c else D)) := by
  rw [cc0_body_eq_skeleton]
  unfold cc0_body_skel Next
  rw [wp_bind]
  iintro ⟨⟨#HI, #HL⟩, ⟨HF, HO, Hin, Hid, Hacc⟩, Ht, Hw, HD⟩
  iapply (part4_spec I κ hT c t arg4 harg4 arg5 harg5 h2 h3 h6 h7)
  isplitr
  · isplitr; · iexact HI
    iexact HL
  isplitl [HF HO]; · (isplitl [HF]; · iexact HF); iexact HO
  isplitl [Ht]; · iexact Ht
  iintro %v2 %hw %v10 ⟨HO, Hloc, Hat, Ht⟩
  dsimp only
  rw [wp_bind]
  iapply (part5_spec I κ c t arg4 harg4 arg5 harg5 h2 h3 h6 h7)
  isplitr
  · isplitr; · iexact HI
    iexact HL
  isplitl [HO Hloc]; · (isplitl [HO]; · iexact HO); iexact Hloc
  isplitl [Hin]; · iexact Hin
  isplitl [Hw]; · iexact Hw
  iintro %v65 ⟨HO, Hloc, Hin, Hw⟩
  simp only [Prog.lift, Prog.bind_op, Prog.bind_ret, Prog.pure_eq_ret]
  ihave H := (acc_take I c t) $$ Hacc
  icases H with ⟨Hold, Hback⟩
  iapply (wp_three c (accSt I c (nOf t) (jOf t).val) (accSt I c (nOf t) ((jOf t).val + 1))
    (fun h1 h2 => by rw [c11 t] at h1; rw [c12 t] at h2; omega)
    (fun h1 h2 => by rw [c11 t] at h1; rw [c13 t] at h2; omega)
    (fun h1 h2 => by rw [c12 t] at h1; rw [c13 t] at h2; omega)
    (by rw [c11 t, c12 t, c13 t]; omega)
    (fun h => acc_first I c (nOf t) (jOf t) ((c11 t).1 h) (off31_eq t))
    (fun h => acc_mid I c (nOf t) (jOf t) ((c12 t).1 h) (off32_eq t))
    (fun h => acc_last I c (nOf t) (jOf t) ((c13 t).1 h) (off33_eq t)))
  isplitl [Hold]; · iexact Hold
  iintro Hnew
  ihave Hacc := Hback $$ Hnew
  by_cases h31 : t.val = 31
  · rw [dif_pos ((c14 t).2 h31), if_pos h31, if_pos h31]
    simp only [k0_part2_eq_skeleton, k0_part3_eq_skeleton, k0_part2_skel, k0_part3_skel, Prog.lift, Prog.bind_op, Prog.bind_ret, Prog.pure_eq_ret]
    have e32 : Acc I c (t.val + 1) = Acc I c 32 := by rw [h31]
    have est : st t.val 7 = 7 := by rw [h31]; exact st_last
    have ej : (jOf t).val + 1 = 8 := by show t.val / 4 + 1 = 8; omega
    have e33 : Acc I c (t.val + 1) ⊢ iprop(chunkPts c 0 (accV I c 0 7) ∗ chunkPts c 1 (accV I c 1 7) ∗ chunkPts c 2 (accV I c 2 7) ∗ chunkPts c 3 (accV I c 3 7)) := by
      rw [e32, acc_done]
    rw [est, ej]
    unfold OutO
    icases HO with ⟨Ho, HO⟩
    ihave Hacc := e33 $$ Hacc
    icases Hacc with ⟨H0, H1, H2, H3⟩
    iapply (wp_chunk_load c 0 rfl)
    isplitl [H0]; · iexact H0
    iintro H0
    iapply (wp_out_load c)
    isplitl [HD]; · iexact HD
    iintro %u0 HD
    iapply (wp_out_store c 0 rfl)
    isplitl [HD]; · iexact HD
    iintro HD
    iapply (wp_chunk_load c 1 rfl)
    isplitl [H1]; · iexact H1
    iintro H1
    iapply (wp_out_load c)
    isplitl [HD]; · iexact HD
    iintro %u1 HD
    iapply (wp_out_store c 1 rfl)
    isplitl [HD]; · iexact HD
    iintro HD
    iapply (wp_chunk_load c 2 rfl)
    isplitl [H2]; · iexact H2
    iintro H2
    iapply (wp_out_load c)
    isplitl [HD]; · iexact HD
    iintro %u2 HD
    iapply (wp_out_store c 2 rfl)
    isplitl [HD]; · iexact HD
    iintro HD
    iapply (wp_chunk_load c 3 rfl)
    isplitl [H3]; · iexact H3
    iintro H3
    iapply (wp_out_load c)
    isplitl [HD]; · iexact HD
    iintro %u3 HD
    iapply (wp_out_store c 3 rfl)
    isplitl [HD]; · iexact HD
    iintro HD
    rw [put_all]
    ihave HS := (out_left I c) $$ Ho
    iapply (wp_send_wait I κ c 1 (by decide) 0 rfl 7 (rows_of (pr c 1) _ (off34_1 c)) (send_of 1 _ rfl))
    isplitr; · iexact HI
    isplitr; · iexact HL
    isplitl [HS HO]; · (isplitl [HS]; · iexact HS); iexact HO
    iintro ⟨HS, HO⟩
    iapply (wp_send_wait I κ c 2 (by decide) 1 rfl 7 (rows_of (pr c 2) _ (off34_2 c)) (send_of 2 _ rfl))
    isplitr; · iexact HI
    isplitr; · iexact HL
    isplitl [HS HO]; · (isplitl [HS]; · iexact HS); iexact HO
    iintro ⟨HS, HO⟩
    iapply (wp_send_wait I κ c 3 (by decide) 2 rfl 7 (rows_of (pr c 3) _ (off34_3 c)) (send_of 3 _ rfl))
    isplitr; · iexact HI
    isplitr; · iexact HL
    isplitl [HS HO]; · (isplitl [HS]; · iexact HS); iexact HO
    iintro ⟨HS, HO⟩
    iapply (wp_send_wait I κ c 4 (by decide) 3 rfl 7 (rows_of (pr c 4) _ (off34_4 c)) (send_of 4 _ rfl))
    isplitr; · iexact HI
    isplitr; · iexact HL
    isplitl [HS HO]; · (isplitl [HS]; · iexact HS); iexact HO
    iintro ⟨HS, HO⟩
    iapply (wp_send_wait I κ c 5 (by decide) 4 rfl 7 (rows_of (pr c 5) _ (off34_5 c)) (send_of 5 _ rfl))
    isplitr; · iexact HI
    isplitr; · iexact HL
    isplitl [HS HO]; · (isplitl [HS]; · iexact HS); iexact HO
    iintro ⟨HS, HO⟩
    iapply (wp_send_wait I κ c 6 (by decide) 5 rfl 7 (rows_of (pr c 6) _ (off34_6 c)) (send_of 6 _ rfl))
    isplitr; · iexact HI
    isplitr; · iexact HL
    isplitl [HS HO]; · (isplitl [HS]; · iexact HS); iexact HO
    iintro ⟨HS, HO⟩
    iapply (wp_send_wait I κ c 7 (by decide) 6 rfl 7 (rows_of (pr c 7) _ (off34_7 c)) (send_of 7 _ rfl))
    isplitr; · iexact HI
    isplitr; · iexact HL
    isplitl [HS HO]; · (isplitl [HS]; · iexact HS); iexact HO
    iintro ⟨HS, HO⟩
    rw [wp_ret]
    imodintro
    isplitr [Ht Hw HD]
    rotate_left
    · isplitl [Ht]; · iexact Ht
      isplitl [Hw]; · iexact Hw
      iexact HD
    unfold Last
    isplitl [HS]; · iexact HS
    isplitl [HO]; · iexact HO
    isplitl [Hloc]; · iexact Hloc
    isplitl [Hin]; · iexact Hin
    isplitl [Hid]; · iexact Hid
    isplitl [Hat]; · iexact Hat
    rw [acc_done]
    isplitl [H0]; · iexact H0
    isplitl [H1]; · iexact H1
    isplitl [H2]; · iexact H2
    iexact H3
  · rw [dif_neg (fun h => h31 ((c14 t).1 h)), wp_ret, if_neg h31, if_neg h31]
    imodintro
    have hst : st (t.val + 1) 0 = st t.val 7 := st_next t h31
    have hin : inB (t.val + 1) = (jOf t).val + 1 := by
      show inB (t.val + 1) = t.val / 4 + 1
      unfold inB; split <;> omega
    rw [hin]
    unfold OutO Front owedB
    rw [if_neg (Nat.succ_ne_zero _), if_neg (Nat.succ_ne_zero _), hst]
    icases HO with ⟨Ho, HO⟩
    isplitr [Ht Hw HD]
    rotate_left
    · isplitl [Ht]; · iexact Ht
      isplitl [Hw]; · iexact Hw
      iexact HD
    isplitl [Ho Hloc Hat]
    · isplitl [Ho]; · iexact Ho
      isplitl [Hloc]; · iexact Hloc
      iexact Hat
    isplitl [HO]; · iexact HO
    isplitl [Hin]; · iexact Hin
    isplitl [Hid]; · iexact Hid
    iexact Hacc

end Cert.KernelIdeal.Exchange

end
-- ==== Proof.Ideal.Finish.lean ====
module

public import proofs.«01_k».proof.Proof.Ideal.Body4
public import Idealize.ShloMosaic.Lib.Ring.FamCut

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (κ : GSem nD τ sig → ℕ)

/-! ## Cutting the buffers into their parts, and joining them back -/

theorem slots_disj (c : Dev nD) : ∀ b b' : Fin 8, b ≠ b' → Disjoint ((slotM b).view.set) ((slotM b').view.set) := by
  intro b b' h
  have hs : ∀ k : Fin 8, (slotM k).view.set = (slotR k).set := fun k => by
    unfold slotM
    exact (View.set_reshape _ _).trans (View.set_slice_whole cc0_scratch0 (slotR k))
  rw [hs, hs]
  exact Rect.unit_disjoint 0 (by
    have : b.val ≠ b'.val := fun e => h (Fin.ext e)
    show b.val + 1 ≤ b'.val ∨ b'.val + 1 ≤ b.val
    omega)

theorem rows_disj (c : Dev nD) : ∀ b b' : Fin 8, b ≠ b' → Disjoint ((rowsM b).view.set) ((rowsM b').view.set) := by
  intro b b' h
  have hs : ∀ k : Fin 8, (rowsM k).view.set = (rowsR k).set := fun k => View.set_slice_whole main_v1 (rowsR k)
  rw [hs, hs]
  exact Rect.unit_disjoint 0 (by
    have : b.val ≠ b'.val := fun e => h (Fin.ext e)
    show 1024 * b.val + 1024 ≤ 1024 * b'.val ∨ 1024 * b'.val + 1024 ≤ 1024 * b.val
    omega)

theorem chunks_disj (c : Dev nD) : ∀ b b' : Fin 4, b ≠ b' → Disjoint ((accM.access (chunkR b)).set) ((accM.access (chunkR b')).set) := by
  intro b b' h
  have hs : ∀ k : Fin 4, (accM.access (chunkR k)).set = (chunkR k).set := fun k => View.set_slice_whole cc0_scratch1 (chunkR k)
  rw [hs, hs]
  exact Rect.unit_disjoint 0 (by
    have : b.val ≠ b'.val := fun e => h (Fin.ext e)
    show b.val + 1 ≤ b'.val ∨ b'.val + 1 ≤ b.val
    omega)

abbrev slotLoc (c : Dev nD) : Loc nD τ sig := (c : Thread nD τ).loc cc0_scratch0
abbrev chunkLoc (c : Dev nD) : Loc nD τ sig := (c : Thread nD τ).loc cc0_scratch1
abbrev rowLoc (c : Dev nD) : Loc nD τ sig := (c : Thread nD τ).loc main_v1
abbrev slotFam (c : Dev nD) (k : Fin 8) : Finset (Idx (slotLoc c)) := (slotM k).view.set
abbrev chunkFam (c : Dev nD) (n : Fin 4) : Finset (Idx (chunkLoc c)) := (accM.access (chunkR n)).set
abbrev rowFam (c : Dev nD) (r : Fin 8) : Finset (Idx (rowLoc c)) := (rowsM r).view.set

/-- What the slots and the chunks leave of their buffers. -/
def Rests (c : Dev nD) : sProp 𝕄 :=
  iprop((∃ f : Buf (Elt F) (slotLoc c), slotLoc c ↦[Ring.restOf (slotFam c)]{fullShare} f)
    ∗ (∃ f : Buf (Elt F) (chunkLoc c), chunkLoc c ↦[Ring.restOf (chunkFam c)]{fullShare} f))

/-- The kernel's two scratch buffers, whatever they hold. -/
def Scratch (c : Dev nD) : sProp 𝕄 :=
  iprop((∃ f : Buf (Elt F) (slotLoc c), slotLoc c ↦{fullShare} f) ∗ (∃ f : Buf (Elt F) (chunkLoc c), chunkLoc c ↦{fullShare} f))

theorem scratch_cut (c : Dev nD) :
    Scratch (F := F) c ⊢ iprop(bigSep Finset.univ (slotAny (F := F) c) ∗ bigSep Finset.univ (fun n : Fin 4 => iprop(∃ Y, chunkPts (F := F) c n Y)) ∗ Rests (F := F) c) := by
  unfold Scratch Rests
  iintro ⟨H0, H1⟩
  ihave H0 := (Ring.fam_split_ex (ℓ := slotLoc c) (slotFam c) (slots_disj c)) $$ H0
  ihave H1 := (Ring.fam_split_ex (ℓ := chunkLoc c) (chunkFam c) (chunks_disj c)) $$ H1
  icases H0 with ⟨H0, R0⟩
  icases H1 with ⟨H1, R1⟩
  isplitl [H0]; · iexact H0
  isplitl [H1]
  · have e0 : ∀ n : Fin 4, (iprop(∃ f : Buf (Elt F) (chunkLoc c), chunkLoc c ↦[chunkFam c n]{fullShare} f) : sProp 𝕄) ⊢ iprop(∃ Y, chunkPts (F := F) c n Y) := fun n => by
      unfold chunkPts
      iintro ⟨%f, H⟩
      iexists _; iexists f; isplitr; · ipureintro; rfl
      iexact H
    have e : bigSep Finset.univ (fun n : Fin 4 => (iprop(∃ f : Buf (Elt F) (chunkLoc c), chunkLoc c ↦[chunkFam c n]{fullShare} f) : sProp 𝕄))
        ⊢ bigSep Finset.univ (fun n : Fin 4 => iprop(∃ Y, chunkPts (F := F) c n Y)) := bigSep_mono fun n _ => e0 n
    iapply e; iexact H1
  isplitl [R0] <;> iassumption

theorem scratch_join (c : Dev nD) :
    iprop(bigSep Finset.univ (slotAny (F := F) c) ∗ bigSep Finset.univ (fun n : Fin 4 => iprop(∃ Y, chunkPts (F := F) c n Y)) ∗ Rests (F := F) c) ⊢ Scratch (F := F) c := by
  unfold Scratch Rests
  iintro ⟨H0, H1, R0, R1⟩
  have e0 : ∀ n : Fin 4, iprop(∃ Y, chunkPts (F := F) c n Y) ⊢ (iprop(∃ f : Buf (Elt F) (chunkLoc c), chunkLoc c ↦[chunkFam c n]{fullShare} f) : sProp 𝕄) := fun n => by
      unfold chunkPts
      iintro ⟨%Y, %f, -, H⟩
      iexists f; iexact H
  have e : bigSep Finset.univ (fun n : Fin 4 => iprop(∃ Y, chunkPts (F := F) c n Y))
        ⊢ bigSep Finset.univ (fun n : Fin 4 => (iprop(∃ f : Buf (Elt F) (chunkLoc c), chunkLoc c ↦[chunkFam c n]{fullShare} f) : sProp 𝕄)) := bigSep_mono fun n _ => e0 n
  isplitl [H0 R0]
  · iapply (Ring.fam_join (ℓ := slotLoc c) (slotFam c) (slots_disj c) (fun _ => (FloatOps.ofBits (F := F) .bf16 0)))
    isplitl [H0]; · iexact H0
    iexact R0
  · iapply (Ring.fam_join (ℓ := chunkLoc c) (chunkFam c) (chunks_disj c) (fun _ => (FloatOps.ofBits (F := F) .f32 0)))
    isplitl [H1]
    · iapply e; iexact H1
    · iassumption

/-- `x16` whole is its eight row blocks. -/
theorem rows_cut (c : Dev nD) : ((rowLoc c) ↦{fullShare} I.x c : sProp 𝕄) ⊢ bigSep Finset.univ (rowPts I c) := by
  iintro H
  ihave H := (Ring.fam_split (ℓ := rowLoc c) (rowFam c) (rows_disj c) (I.x c)) $$ H
  icases H with ⟨H, -⟩
  iexact H

/-! ## The end -/

/-- The kernel's own semaphores, all at zero. -/
def Quiet (c : Dev nD) : sProp 𝕄 := bigSep Finset.univ fun k : OwnK => (semVal (ownC c k) 0 : sProp 𝕄)

/-- A family over all eight devices, from its value at `c` and at the peers. -/
theorem ring_join (c : Dev nD) (Φ : Dev nD → sProp 𝕄) : iprop(Φ c ∗ bigSep offs (fun o => Φ (nx c o))) ⊢ bigSep (Finset.univ : Finset (Fin 8)) Φ := by
  have e1 : bigSep (Finset.univ : Finset (Fin 8)) (fun o => Φ (nx c o)) = iprop(Φ (nx c 0) ∗ bigSep offs (fun o => Φ (nx c o))) := bigSep_erase (Finset.mem_univ _)
  have e2 : bigSep (Finset.univ : Finset (Fin 8)) Φ = bigSep (Finset.univ : Finset (Fin 8)) (fun o => Φ (nx c o)) := bigSep_univ_equiv (around c) Φ
  rw [e2, e1, nx_zero]

theorem ring_cut (c : Dev nD) (Φ : Dev nD → sProp 𝕄) : bigSep (Finset.univ : Finset (Fin 8)) Φ ⊢ iprop(Φ c ∗ bigSep offs (fun o => Φ (nx c o))) := by
  have e1 : bigSep (Finset.univ : Finset (Fin 8)) (fun o => Φ (nx c o)) = iprop(Φ (nx c 0) ∗ bigSep offs (fun o => Φ (nx c o))) := bigSep_erase (Finset.mem_univ _)
  have e2 : bigSep (Finset.univ : Finset (Fin 8)) Φ = bigSep (Finset.univ : Finset (Fin 8)) (fun o => Φ (nx c o)) := bigSep_univ_equiv (around c) Φ
  rw [e2, e1, nx_zero]

theorem ring_cut_back (c : Dev nD) (Φ : Dev nD → sProp 𝕄) : bigSep (Finset.univ : Finset (Fin 8)) Φ ⊢ iprop(Φ c ∗ bigSep offs (fun o => Φ (pr c o))) := by
  have e1 : bigSep (Finset.univ : Finset (Fin 8)) (fun o => Φ (pr c o)) = iprop(Φ (pr c 0) ∗ bigSep offs (fun o => Φ (pr c o))) := bigSep_erase (Finset.mem_univ _)
  have e2 : bigSep (Finset.univ : Finset (Fin 8)) Φ = bigSep (Finset.univ : Finset (Fin 8)) (fun o => Φ (pr c o)) := bigSep_univ_equiv (aroundBack c) Φ
  rw [e2, e1, pr_zero]

theorem offs_cut (Φ : Fin 8 → sProp 𝕄) : bigSep (Finset.univ : Finset (Fin 8)) Φ ⊢ iprop(Φ 0 ∗ bigSep offs Φ) := by
  have e1 : bigSep (Finset.univ : Finset (Fin 8)) Φ = iprop(Φ 0 ∗ bigSep offs Φ) := bigSep_erase (Finset.mem_univ _)
  rw [e1]
theorem offs_join (Φ : Fin 8 → sProp 𝕄) : iprop(Φ 0 ∗ bigSep offs Φ) ⊢ bigSep (Finset.univ : Finset (Fin 8)) Φ := by
  have e1 : bigSep (Finset.univ : Finset (Fin 8)) Φ = iprop(Φ 0 ∗ bigSep offs Φ) := bigSep_erase (Finset.mem_univ _)
  rw [e1]

theorem own_family (Φ : OwnK → sProp 𝕄) :
    bigSep (Finset.univ : Finset OwnK) Φ = iprop((bigSep Finset.univ (fun o : Fin 8 => Φ (.inl (.inl o))) ∗ bigSep Finset.univ (fun k : Fin 8 => Φ (.inl (.inr k)))) ∗ Φ (.inr ())) := by
  have e : bigSep (Finset.univ : Finset OwnK) Φ = iprop(bigSep Finset.univ (fun x : Fin 8 ⊕ Fin 8 => Φ (.inl x)) ∗ bigSep Finset.univ (fun u : Unit => Φ (.inr u))) := bigSep_univ_sum Φ
  have e' : bigSep Finset.univ (fun x : Fin 8 ⊕ Fin 8 => Φ (.inl x)) = iprop(bigSep Finset.univ (fun o : Fin 8 => Φ (.inl (.inl o))) ∗ bigSep Finset.univ (fun k : Fin 8 => Φ (.inl (.inr k)))) :=
    bigSep_univ_sum _
  have e'' : bigSep Finset.univ (fun u : Unit => Φ (.inr u)) = Φ (.inr ()) := bigSep_singleton
  rw [e, e', e'']

theorem close_one (g : GSem nD τ sig) (hg : g ∈ barCells ∪ ownCells) (R : ℕ) (hR : ∀ r, R ≤ r → (Rd I).duties g r = ∅) :
    iprop(Inv I κ ∗ atPos ER g R ∅ 0) ⊢ iprop(|={Set.univ}=> semVal g 0) := by
  iintro ⟨#HI, H⟩
  iapply (Rounds.cell_close ER (Rd I) (κ := κ g) (Set.mem_univ _) (fun h => h) hR)
  isplitr
  · have e : Inv I κ ⊢ cellInv ER (Rd I) (κ g) g := bigSep_elim hg
    iapply e; iexact HI
  iexact H

/-- A family of cells closed. -/
theorem close_fam (S : Finset (Fin 8)) (gs : Fin 8 → GSem nD τ sig) (hg : ∀ o, gs o ∈ barCells ∪ ownCells) (R : ℕ) (hR : ∀ o ∈ S, ∀ r, R ≤ r → (Rd I).duties (gs o) r = ∅) :
    iprop(Inv I κ ∗ bigSep S (fun o => (atPos ER (gs o) R ∅ 0 : sProp 𝕄))) ⊢ iprop(|={Set.univ}=> (bigSep S fun o => (semVal (gs o) 0 : sProp 𝕄))) := by
  have h1 : iprop(Inv I κ ∗ bigSep S (fun o => (atPos ER (gs o) R ∅ 0 : sProp 𝕄))) ⊢ bigSep S (fun o => iprop(Inv I κ ∗ atPos ER (gs o) R ∅ 0)) :=
    bigSep_with_persistent fun o _ => .rfl
  exact h1.trans ((bigSep_mono fun o ho => close_one I κ (gs o) (hg o) R (hR o ho)).trans (bigSep_fupd _ _))

/-- The last point's state closes every cell of the device and gives its scratch back. -/
theorem finish (c : Dev nD) :
    iprop(Inv I κ ∗ Last I c ∗ Rests (F := F) c) ⊢ iprop(|={Set.univ}=> (Scratch (F := F) c ∗ Quiet (F := F) c ∗ semVal (barC c) 0 ∗ owesAny c 0)) := by
  have hL : Left (F := F) c 7 ⊢ bigSep offs (fun o => (atPos ER (sendC c o) 1 ∅ 0 : sProp 𝕄)) := bigSep_mono fun o _ => by
    rw [if_pos (by have := o.isLt; omega)]; exact BI.Entails.refl _
  have hIn : In I c 8 ⊢ iprop(bigSep offs (fun o => slotPts c (nx c o) (xblk I (nx c o) c)) ∗ bigSep offs (fun o => (atPos ER (recvC c (nx c o)) 1 ∅ 0 : sProp 𝕄))) := by
    have e : In I c 8 ⊢ bigSep offs (arrived I c) := bigSep_mono fun o _ => by rw [if_pos o.isLt]; exact BI.Entails.refl _
    refine e.trans ?_
    unfold arrived
    rw [bigSep_sep']
  have hA : Acc I c 32 ⊢ bigSep Finset.univ (fun n : Fin 4 => iprop(∃ Y, chunkPts (F := F) c n Y)) := bigSep_mono fun n _ => accSt_any I c n _
  have hS : iprop(slotPts c c (xblk I c c) ∗ bigSep offs (fun o => slotPts c (nx c o) (xblk I (nx c o) c))) ⊢ bigSep Finset.univ (slotAny (F := F) c) :=
    (ring_join c (fun k => slotPts c k (xblk I k c))).trans (bigSep_mono fun k _ => slotAny_of c k _)
  unfold Last loc2 Idle
  rw [owed_seven c 7 le_rfl]
  iintro ⟨#HI, ⟨HL, HO, ⟨Hs, Hl⟩, Hin, ⟨Hs0, Hr0⟩, Hb, Hacc⟩, HR⟩
  ihave HL := hL $$ HL
  ihave Hin := hIn $$ Hin
  icases Hin with ⟨Hsl, Hrc⟩
  ihave Hacc := hA $$ Hacc
  imod (close_fam I κ offs (sendC c) (fun o => ownC_mem c (.inl (.inl o))) 1 (fun o _ => duties_later I _)) $$ [HL] with HL
  · isplitr; · iexact HI
    iexact HL
  imod (close_fam I κ offs (fun o => recvC c (nx c o)) (fun o => ownC_mem c (.inl (.inr (nx c o)))) 1 (fun o _ => duties_later I _)) $$ [Hrc] with Hrc
  · isplitr; · iexact HI
    iexact Hrc
  imod (close_one I κ (sendC c 0) (ownC_mem c (.inl (.inl 0))) 0 (fun r _ => duties_send0 I c r)) $$ [Hs0] with Hs0
  · isplitr; · iexact HI
    iexact Hs0
  imod (close_one I κ (recvC c c) (ownC_mem c (.inl (.inr c))) 0 (fun r _ => duties_recvOwn I c r)) $$ [Hr0] with Hr0
  · isplitr; · iexact HI
    iexact Hr0
  imod (close_one I κ (locC c) (ownC_mem c (.inr ())) 1 (duties_later I _)) $$ [Hl] with Hl
  · isplitr; · iexact HI
    iexact Hl
  imod (close_one I κ (barC c) (barC_mem c) 1 (duties_later I _)) $$ [Hb] with Hb
  · isplitr; · iexact HI
    iexact Hb
  imodintro
  isplitl [Hs Hsl Hacc HR]
  · iapply (scratch_join c)
    isplitl [Hs Hsl]
    · iapply hS; isplitl [Hs] <;> iassumption
    isplitl [Hacc] <;> iassumption
  isplitr [HO Hb]
  · unfold Quiet
    rw [own_family]
    isplitr [Hl]
    · isplitl [HL Hs0]
      · iapply (offs_join (fun o => (semVal (sendC c o) 0 : sProp 𝕄)))
        isplitl [Hs0] <;> iassumption
      · iapply (ring_join c (fun k => (semVal (recvC c k) 0 : sProp 𝕄)))
        isplitl [Hr0] <;> iassumption
    · iexact Hl
  isplitl [Hb]; · iexact Hb
  iexact HO

end Cert.KernelIdeal.Exchange

end
-- ==== Proof.Ideal.Data.lean ====
module

public import proofs.«01_k».proof.Proof.Ideal.Finish

public import Idealize.ShloMosaic.Lib.Pipeline.Covers

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## What the launch memory puts into the exchange -/

/-- The peers in the order they are taken up, as the host operations leave the table. -/
def tblV (c : Dev nD) : S8.Idx → BitVec 32 := fun x => BitVec.ofNat 32 (nx c ⟨(x 0).val, (x 0).isLt⟩).val

/-- The device's column block of the operand, rounded. -/
def xV (c : Dev nD) : S8192x1024.Idx → Elt F .bf16 :=
  (truncf .bf16 · bitsLt_bf16_f32 : (⟨S8192x1024, .f32⟩ : BufTy).Contents (Elt F) → (⟨S8192x1024, .bf16⟩ : BufTy).Contents (Elt F)) (m (((c : Thread nD τ)).1, Proc.devRef .tc main_arg0))

/-- Where entry `y` of the block of rows `j'` and columns `n` lies in the second operand. -/
def wIdx (j' : Fin 8) (n : Fin 4) (y : S1024x1024.Idx) : S8192x4096.Idx :=
  fun | 0 => ⟨j'.val * 1024 + (y 0).val, by have h : (y 0).val < 1024 := (y 0).isLt; have := j'.isLt; show _ < 8192; omega⟩
      | 1 => ⟨n.val * 1024 + (y 1).val, by have h : (y 1).val < 1024 := (y 1).isLt; have := n.isLt; show _ < 4096; omega⟩

/-- The block of the second operand a point reads. -/
def wBlk (c : Dev nD) (j : Fin 8) (n : Fin 4) : S1024x1024.Idx → Elt F .f32 :=
  fun y => (m (((c : Thread nD τ)).1, Proc.devRef .tc main_arg1) : S8192x4096.Idx → Elt F .f32) (wIdx (nx c j) n y)

def inputs : Inputs F := ⟨xV m, wBlk m, tblV⟩

theorem tblOk : TblOk (inputs m) := fun c j x h => by
  show BitVec.ofNat 32 (nx c ⟨(x 0).val, _⟩).val = _
  congr 3
  exact Fin.ext h

/-! ## The host operations' results -/

theorem V1_v1 (c : Dev nD) : V1 m c main_v1 = xV m c := by
  show StableHlo.after (hostOps0 c) (V0 m c) (Proc.devRef .tc main_v1) = _
  after_results
  rfl

theorem table_word (c : Dev nD) (k : Fin 8) :
    Host.remsi (s := S8) (w := 32) (addi (broadcastInDim S8 ![] bcast_S_S8 (Host.remui (s := S_) (Host.divui (constantI S_ 32 (Dev.word c)) (constantI S_ 32 1#32)) (constantI S_ 32 8#32))) (iotaInDim S8 32 0))
      (broadcastInDim S8 ![] bcast_S_S8 (constantI S_ 32 8#32)) (fun | 0 => k) = BitVec.ofNat 32 (nx c k).val := by
  revert c k
  decide +kernel

theorem V1_v10 (c : Dev nD) : V1 m c main_v10 = (tblV c : S8.Idx → BitVec 32) := by
  show StableHlo.after (hostOps0 c) (V0 m c) (Proc.devRef .tc main_v10) = _
  after_results
  funext x
  have hx : x = (fun | 0 => (⟨(x 0).val, (x 0).isLt⟩ : Fin 8)) := by funext a; fin_cases a; rfl
  rw [hx]
  exact table_word c ⟨(x 0).val, (x 0).isLt⟩

/-! ## The table is admissible -/

def pfT (c : Dev nD) : (pre0 : Pipeline.Prefetch sig).Contents (Elt F) := fun | 0 => (tblV c : S8.Idx → BitVec 32)

theorem off_val : ∀ t : Fin grid0.N, (Scalar.indexCast (BitVec.ofNat 32 (grid0.coords t 0).val) : Index).toNat = t.val / 4 := by decide +kernel
theorem col_val : ∀ t : Fin grid0.N, (BitVec.ofNat 32 (grid0.coords t 1).val).toNat = t.val % 4 := by decide +kernel

theorem transform1 (c : Dev nD) (t : Fin grid0.N) :
    cc0_transform_1 k0_off1_inb numel1_S1 (pfT (F := F) c) (grid0.coords t) = ![(nx c (jOf t)).val, (nOf t).val] := by
  have h0 : ∀ z : S8.Idx, (z 0).val = t.val / 4 → (tblV c z : BitVec 32).toNat = (nx c (jOf t)).val := fun z hz => by
    unfold tblV
    rw [word_toNat]
    exact congrArg (fun k : Fin 8 => (nx c k).val) (Fin.ext hz)
  have h1 := col_val t
  funext a
  fin_cases a
  · refine h0 _ ?_
    have := off_val t
    exact this
  · exact h1

theorem okT (c : Dev nD) : (pcfg0 (F := F)).ok (pfT c) := fun i => by
  obtain ⟨t, rfl⟩ := grid0.coords_surjective i
  refine ⟨fun a => ?_, Or.inl rfl⟩
  rw [transform1]
  have h8 := (nx c (jOf t)).isLt
  have h4 := (nOf t).isLt
  fin_cases a
  · show ((nx c (jOf t)).val + 1) * 1024 ≤ 8192
    have : (nx c (jOf t)).val < 8 := h8
    omega
  · show ((nOf t).val + 1) * 1024 ≤ 4096
    omega

def adm (c : Dev nD) : (pcfg0 (F := F)).Adm := ⟨pfT c, okT c⟩

/-! ## The pipeline's data -/

/-- What is held between points, before point `t`. -/
def Mid (c : Dev nD) (t : ℕ) : sProp 𝕄 :=
  iprop((∃ κ, Inv (inputs m) κ) ∗ levAts L lv ∗ Front (inputs m) c t ∗ In (inputs m) c (inB t) ∗ Idle c ∗ Acc (inputs m) c t
    ∗ Tbl (inputs m) c ∗ Rests c)

/-- What is held after the last point. -/
def Done (c : Dev nD) : sProp 𝕄 := iprop(Scratch c ∗ Quiet c ∗ semVal (barC c) 0 ∗ Tbl (inputs m) c)

def dat (c : Dev nD) : Dat τ (Elt F) Unit ℕ UU ℕ (cfg0 (F := F) (adm c)) c where
  A := fun | 0 => V1 m c main_arg1 | 1 => V1 m c main_v11
  after := fun | 0 => fun t => wBlk m c (jOf t) (nOf t) | 1 => fun _ => outV (inputs m) c
  Φ t := if t.val < 32 then Mid m c t.val else Done m c
  q _ := fullShare
  owed t := if t.val < 32 then owedB c t.val else 0

/-- The core's `owes` as a point's `owesAt` and back. -/
theorem owes_in {cfg : Pipeline.Cfg sig Λ₀} {c : Dev nD} (d : Dat τ (Elt F) Unit ℕ UU ℕ cfg c) (t : Fin (cfg.N + 1))
    {O : CellTallies nD τ sig Unit} (h0 : d.owed t = O) (hr : d.recorded t = Set.univ) :
    (owesAny c O : sProp 𝕄) ⊢ (d.owesAt () t : sProp 𝕄) := by
  unfold owesAny Dat.owesAt Pipeline.owesWithin Dat.bound; rw [h0, hr]
  iintro ⟨%W, HO⟩; iexists W; isplitr; · ipureintro; exact fun _ _ => Or.inl trivial
  iexact HO
theorem owes_out {cfg : Pipeline.Cfg sig Λ₀} {c : Dev nD} (d : Dat τ (Elt F) Unit ℕ UU ℕ cfg c) (t : Fin (cfg.N + 1))
    {O : CellTallies nD τ sig Unit} (h0 : d.owed t = O) :
    (d.owesAt () t : sProp 𝕄) ⊢ (owesAny c O : sProp 𝕄) := by
  unfold owesAny Dat.owesAt Pipeline.owesWithin; rw [h0]
  iintro ⟨%W, -, HO⟩; iexists W; iexact HO

/-! ## What the windows hold at a point -/

theorem idle1_last : ∀ t : Fin grid0.N, t.val = 31 → idle0 1 (grid0.coords t) = false := by decide +kernel
theorem idle1_early : ∀ t : Fin grid0.N, t.val ≠ 31 → idle0 1 (grid0.coords t) = true := by decide +kernel

theorem index0 (c : Dev nD) (t : Fin grid0.N) : ((cfg0 (F := F) (adm c)).win 0).index t = ![(nx c (jOf t)).val, (nOf t).val] := transform1 c t

theorem fetch0 (c : Dev nD) (t : Fin grid0.N) : ((cfg0 (F := F) (adm c)).win 0).fetch t = true := by
  unfold Pipeline.Window.fetch
  by_cases h : t.val = 0
  · simp only [h, decide_true, Bool.true_or, Bool.and_true]; rfl
  · have h' : ∃ h : 0 < t.val, ((cfg0 (F := F) (adm c)).win 0).index t ≠ ((cfg0 (F := F) (adm c)).win 0).index ⟨t.val - 1, lt_of_le_of_lt (Nat.sub_le _ _) t.isLt⟩ := by
      refine ⟨by omega, fun e => ?_⟩
      rw [index0, index0] at e
      have e1 : t.val % 4 = (t.val - 1) % 4 := congrFun e 1
      omega
    rw [decide_eq_true h']
    simp only [Bool.or_true, Bool.and_true]; rfl

theorem flush1 (c : Dev nD) (t : Fin grid0.N) : ((cfg0 (F := F) (adm c)).win 1).flush t = decide (t.val = 31) := by
  unfold Pipeline.Window.flush
  have h' : ¬ ∃ h : t.val + 1 < grid0.N, ((cfg0 (F := F) (adm c)).win 1).index ⟨t.val + 1, h⟩ ≠ ((cfg0 (F := F) (adm c)).win 1).index t :=
    fun ⟨_, e⟩ => e rfl
  rw [decide_eq_false h']
  have hN : grid0.N = 32 := N_0
  have e : (t.val + 1 = grid0.N) = (t.val = 31) := propext ⟨fun h => by omega, fun h => by omega⟩
  simp only [Bool.or_false]
  rw [show ((cfg0 (F := F) (adm c)).win 1).isOut = true from rfl, Bool.true_and]
  exact decide_eq_decide.mpr (iff_of_eq e)

theorem block0 (c : Dev nD) (t : Fin grid0.N) : (dat m c).blockOf 0 t = wBlk m c (jOf t) (nOf t) := by
  funext y
  obtain ⟨y, rfl⟩ : ∃ y' : S1024x1024.Idx, y' = y := ⟨y, rfl⟩
  have h := transform1 (F := F) c t
  show V1 m c main_arg1 _ = _
  rw [V1_of m c main_arg1 (by decide)]
  refine congrArg (m (((c : Thread nD τ)).1, Proc.devRef .tc main_arg1) : S8192x4096.Idx → Elt F .f32) ?_
  funext a
  refine Fin.ext ?_
  have ha := congrFun h a
  fin_cases a
  · show cc0_transform_1 k0_off1_inb numel1_S1 (pfT (F := F) c) (grid0.coords t) 0 * 1024 + 1 * (y 0).val = (nx c (jOf t)).val * 1024 + (y 0).val
    rw [h, Nat.one_mul]; rfl
  · show cc0_transform_1 k0_off1_inb numel1_S1 (pfT (F := F) c) (grid0.coords t) 1 * 1024 + 1 * (y 1).val = (nOf t).val * 1024 + (y 1).val
    rw [h, Nat.one_mul]; rfl

theorem before0 (c : Dev nD) (t : Fin grid0.N) (d) : (dat m c).before 0 t d = wBlk m c (jOf t) (nOf t) := by
  unfold Dat.before
  rw [if_pos (fetch0 c t)]
  exact block0 m c t

/-! ## The body obligation -/

theorem of_eq {A B : sProp 𝕄} (h : A = B) : A ⊢ B := h ▸ .rfl

theorem ex_in {α : Type} (Φ : α → sProp 𝕄) (a : α) : Φ a ⊢ iprop(∃ x, Φ x) := by
  iintro H; iexists a; iexact H

theorem point_lt (t : Fin grid0.N) : t.val < 32 := N_0 ▸ t.isLt

theorem phi_before (c : Dev nD) (t : Fin grid0.N) : (dat m c).Φ t.castSucc = Mid m c t.val := if_pos (point_lt t)
theorem phi_mid (c : Dev nD) (t : Fin grid0.N) (h : t.val ≠ 31) : (dat m c).Φ t.succ = Mid m c (t.val + 1) :=
  if_pos (by have := point_lt t; show t.val + 1 < 32; omega)
theorem phi_end (c : Dev nD) (t : Fin grid0.N) (h : t.val = 31) : (dat m c).Φ t.succ = Done m c :=
  if_neg (by show ¬ t.val + 1 < 32; omega)
theorem owed_before (c : Dev nD) (t : Fin grid0.N) : (dat m c).owed t.castSucc = owedB c t.val := if_pos (point_lt t)
theorem owed_mid (c : Dev nD) (t : Fin grid0.N) (h : t.val ≠ 31) : (dat m c).owed t.succ = owedB c (t.val + 1) :=
  if_pos (by have := point_lt t; show t.val + 1 < 32; omega)
theorem owed_end (c : Dev nD) (t : Fin grid0.N) (h : t.val = 31) : (dat m c).owed t.succ = 0 :=
  if_neg (by show ¬ t.val + 1 < 32; omega)

set_option maxHeartbeats 4000000 in
theorem body_at (c : Dev nD) (t : Fin grid0.N)
    (arg4 : Memref sig .tc .vmem S1024x1024 .f32) (harg4 : arg4.IsWhole) (arg5 : Memref sig .tc .vmem S1024x4096 .f32) (harg5 : arg5.IsWhole)
    (h2 : (Memref.whole main_v10).IsWhole) (h3 : (Memref.whole main_v1).IsWhole) (h6 : (Memref.whole cc0_scratch0).IsWhole) (h7 : (Memref.whole cc0_scratch1).IsWhole)
    (D : S1024x4096.Idx → Elt F .f32) :
    iprop(Mid m c t.val ∗ owesAny c (owedB c t.val) ∗ owns (c : Thread nD τ) arg4 fullShare (wBlk m c (jOf t) (nOf t)) ∗ owns (c : Thread nD τ) arg5 fullShare D)
      ⊢ wp frame (wpE (defs₀ (F := F)) 𝒱₀ (c : Thread nD τ) none) Set.univ
          (cc0_body (grid0.coords t) (Memref.whole main_v10) h2 (Memref.whole main_v1) h3 arg4 harg4 arg5 harg5
            (Memref.whole cc0_scratch0) h6 (Memref.whole cc0_scratch1) h7 cc0_scratch2 cc0_scratch3 cc0_scratch4) fun _ =>
        iprop((if t.val = 31 then (iprop(Done m c ∗ owesAny c 0) : sProp 𝕄) else iprop(Mid m c (t.val + 1) ∗ owesAny c (owedB c (t.val + 1))))
          ∗ owns (c : Thread nD τ) arg4 fullShare (wBlk m c (jOf t) (nOf t))
          ∗ owns (c : Thread nD τ) arg5 fullShare (if t.val = 31 then outV (inputs m) c else D)) := by
  have e0 : Mid m c t.val ⊢ _ := of_eq (Mid.eq_1 m c t.val)
  iintro ⟨HM, HO, Hw, HD⟩
  ihave HM := e0 $$ HM
  icases HM with ⟨⟨%κ, #HI⟩, #HL, HF, Hin, Hid, Hacc, Ht, Hr⟩
  iapply wp_fupd
  iapply (wp_wand_r frame (wpE (defs₀ (F := F)) 𝒱₀ (c : Thread nD τ) none) Set.univ (Q := fun _ => iprop((if t.val = 31 then Last (inputs m) c else Next (inputs m) c (t.val + 1)) ∗ Tbl (inputs m) c
    ∗ owns (c : Thread nD τ) arg4 fullShare ((inputs m).w c (jOf t) (nOf t))
          ∗ owns (c : Thread nD τ) arg5 fullShare (if t.val = 31 then outV (inputs m) c else D))))
  isplitl [HF HO Hin Hid Hacc Ht Hw HD]
  · iapply (body_spec (inputs m) κ (tblOk m) c t arg4 harg4 arg5 harg5 h2 h3 h6 h7 D)
    isplitr
    · isplitr; · iexact HI
      iexact HL
    isplitl [HF HO Hin Hid Hacc]
    · unfold Next
      isplitl [HF]; · iexact HF
      isplitl [HO]; · iexact HO
      isplitl [Hin]; · iexact Hin
      isplitl [Hid]; · iexact Hid
      iexact Hacc
    isplitl [Ht]; · iexact Ht
    isplitl [Hw]; · iexact Hw
    iexact HD
  iintro %_ ⟨HX, Ht, Hw, HD⟩
  by_cases h : t.val = 31
  · have e1 : (if t.val = 31 then Last (inputs m) c else Next (inputs m) c (t.val + 1)) ⊢ Last (inputs m) c := of_eq (if_pos h)
    have e2 : iprop(Done m c ∗ owesAny c 0) ⊢ (if t.val = 31 then (iprop(Done m c ∗ owesAny c 0) : sProp 𝕄) else iprop(Mid m c (t.val + 1) ∗ owesAny c (owedB c (t.val + 1)))) := of_eq (if_pos h).symm
    ihave HX := e1 $$ HX
    imod (finish (inputs m) κ c) $$ [HX Hr] with ⟨Hs, Hq, Hb, HO⟩
    · isplitr; · iexact HI
      isplitl [HX]; · iexact HX
      iexact Hr
    imodintro
    isplitl [Hs Hq Hb HO Ht]
    · iapply e2
      isplitl [Hs Hq Hb Ht]
      · unfold Done
        isplitl [Hs]; · iexact Hs
        isplitl [Hq]; · iexact Hq
        isplitl [Hb]; · iexact Hb
        iexact Ht
      iexact HO
    isplitl [Hw]; · iexact Hw
    iexact HD
  · have e1 : (if t.val = 31 then Last (inputs m) c else Next (inputs m) c (t.val + 1)) ⊢ Next (inputs m) c (t.val + 1) := of_eq (if_neg h)
    have e2 : iprop(Mid m c (t.val + 1) ∗ owesAny c (owedB c (t.val + 1))) ⊢ (if t.val = 31 then (iprop(Done m c ∗ owesAny c 0) : sProp 𝕄) else iprop(Mid m c (t.val + 1) ∗ owesAny c (owedB c (t.val + 1)))) := of_eq (if_neg h).symm
    ihave HX := e1 $$ HX
    unfold Next
    icases HX with ⟨HF, HO, Hin, Hid, Hacc⟩
    imodintro
    isplitl [HF HO Hin Hid Hacc Ht Hr]
    · iapply e2
      isplitl [HF Hin Hid Hacc Ht Hr]
      · unfold Mid
        isplitr; · (iexists κ; iexact HI)
        isplitr; · iexact HL
        isplitl [HF]; · iexact HF
        isplitl [Hin]; · iexact Hin
        isplitl [Hid]; · iexact Hid
        isplitl [Hacc]; · iexact Hacc
        isplitl [Ht]; · iexact Ht
        iexact Hr
      iexact HO
    isplitl [Hw]; · iexact Hw
    iexact HD

/-- Window `w`'s current staging buffer at a point. -/
abbrev stg (c : Dev nD) (t : Fin grid0.N) (w : Fin 2) := ((cfg0 (F := F) (adm c)).win w).stage ((cfg0 (F := F) (adm c)).slots t w)

theorem leaves_last (c : Dev nD) (t : Fin grid0.N) (h : t.val = 31) :
    (dat m c).leavesExact 1 t = owns (c : Thread nD τ) (stg (F := F) c t 1) fullShare (outV (inputs m) c) := by
  have e : (cfg0 (F := F) (adm c)).idle 1 ((cfg0 (F := F) (adm c)).grid.coords t) = false := idle1_last t h
  unfold Dat.leavesExact
  rw [e]
  rfl
theorem leaves_early (c : Dev nD) (t : Fin grid0.N) (h : t.val ≠ 31) :
    (dat m c).leavesExact 1 t = iprop(∃ d, owns (c : Thread nD τ) (stg (F := F) c t 1) fullShare ((dat m c).before 1 t d)) := by
  have e : (cfg0 (F := F) (adm c)).idle 1 ((cfg0 (F := F) (adm c)).grid.coords t) = true := idle1_early t h
  have e2 : ((cfg0 (F := F) (adm c)).win 1).flush t = false := by rw [flush1]; exact decide_eq_false h
  unfold Dat.leavesExact
  rw [e, e2]
  rfl

set_option maxHeartbeats 4000000 in
theorem body (c : Dev nD) : Pipeline.BodyObligation (dat m c) (defs₀ (F := F)) 𝒱₀ () Set.univ := fun t => by
  rw [bigSep_W0, bigSep_W0, phi_before]
  iintro ⟨HM, HO, ⟨%d0, H0⟩, ⟨%d1, H1⟩⟩
  ihave HO := (owes_out (dat m c) t.castSucc (owed_before m c t)) $$ HO
  have e0 : (owns (c : Thread nD τ) (stg (F := F) c t 0) fullShare ((dat m c).before 0 t d0) : sProp 𝕄)
      ⊢ owns (c : Thread nD τ) (stg (F := F) c t 0) fullShare (wBlk m c (jOf t) (nOf t)) :=
    of_eq (congrArg (owns (c : Thread nD τ) (stg (F := F) c t 0) fullShare) (before0 m c t d0))
  ihave H0 := e0 $$ H0
  iapply (wp_wand_r frame (wpE (defs₀ (F := F)) 𝒱₀ (c : Thread nD τ) none) Set.univ)
  isplitl [HM HO H0 H1]
  · iapply (body_at m c t (stg (F := F) c t 0) (stage_whole0 0 _) (stg (F := F) c t 1) (stage_whole0 1 _) _ _ _ _ ((dat m c).before 1 t d1))
    isplitl [HM]; · iexact HM
    isplitl [HO]; · iexact HO
    isplitl [H0]; · iexact H0
    iexact H1
  iintro %_ ⟨HX, H0, H1⟩
  by_cases h : t.val = 31
  · have e2 : (if t.val = 31 then (iprop(Done m c ∗ owesAny c 0) : sProp 𝕄) else iprop(Mid m c (t.val + 1) ∗ owesAny c (owedB c (t.val + 1))))
        ⊢ iprop(Done m c ∗ owesAny c 0) := by rw [if_pos h]
    have e3 : Done m c ⊢ (dat m c).Φ t.succ := by rw [phi_end m c t h]
    have e1 : (owns (c : Thread nD τ) (stg (F := F) c t 1) fullShare (if t.val = 31 then outV (inputs m) c else (dat m c).before 1 t d1) : sProp 𝕄)
        ⊢ (dat m c).leavesExact 1 t :=
      of_eq ((congrArg (owns (c : Thread nD τ) (stg (F := F) c t 1) fullShare) (if_pos h)).trans (leaves_last m c t h).symm)
    ihave HX := e2 $$ HX
    icases HX with ⟨HD, HO⟩
    isplitl [HD]; · (iapply e3; iexact HD)
    isplitl [HO]; · (iapply (owes_in (dat m c) t.succ (owed_end m c t h) rfl); iexact HO)
    isplitl [H0]; · iexact H0
    iapply e1
    iexact H1
  · have e2 : (if t.val = 31 then (iprop(Done m c ∗ owesAny c 0) : sProp 𝕄) else iprop(Mid m c (t.val + 1) ∗ owesAny c (owedB c (t.val + 1))))
        ⊢ iprop(Mid m c (t.val + 1) ∗ owesAny c (owedB c (t.val + 1))) := by rw [if_neg h]
    have e3 : Mid m c (t.val + 1) ⊢ (dat m c).Φ t.succ := by rw [phi_mid m c t h]
    have e1 : (owns (c : Thread nD τ) (stg (F := F) c t 1) fullShare (if t.val = 31 then outV (inputs m) c else (dat m c).before 1 t d1) : sProp 𝕄)
        ⊢ (dat m c).leavesExact 1 t := by
      refine BI.Entails.trans ?_ (of_eq (leaves_early m c t h).symm)
      refine BI.Entails.trans (of_eq (congrArg (owns (c : Thread nD τ) (stg (F := F) c t 1) fullShare) (if_neg h))) ?_
      exact ex_in (fun d => owns (c : Thread nD τ) (stg (F := F) c t 1) fullShare ((dat m c).before 1 t d)) d1
    ihave HX := e2 $$ HX
    icases HX with ⟨HD, HO⟩
    isplitl [HD]; · (iapply e3; iexact HD)
    isplitl [HO]; · (iapply (owes_in (dat m c) t.succ (owed_mid m c t h) rfl); iexact HO)
    isplitl [H0]; · iexact H0
    iapply e1
    iexact H1

end Cert.KernelIdeal.Exchange

end
-- ==== Proof.Ideal.Ghost.lean ====
module

public import proofs.«01_k».proof.Proof.Ideal.Data

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## The credits dealt at launch -/

/-- What device `c` waits for with what the others owe it: seven units on its barrier, and every arrival. -/
def Creds (c : Dev nD) : sProp 𝕄 :=
  iprop(cred (tallyAt (barC c) () 7) ∗ bigSep offs fun o => cred (tallyAt (recvC c (nx c o)) () N))

theorem offs_filter : (Finset.univ.filter fun o : Fin 8 => 0 < o.val) = offs := by decide

theorem recv_due (o : Fin 8) (c : Dev nD) :
    (Pipeline.launchCred (fun d => oweRecv d o) c : sProp 𝕄) = cred (tallyAt (recvC c (nx c o)) () N) := by
  refine Pipeline.launchCred_of_sum (fun d => oweRecv d o) (fun d => tallyAt (recvC d (nx d o)) () N) ?_ ?_ c
  · refine (Fintype.sum_equiv (turn o) (fun d => tallyAt (recvC d (nx d o)) () N) (fun d => oweRecv d o) fun d => ?_).symm
    show tallyAt (recvC d (nx d o)) () N = tallyAt (recvC (pr (nx d o) o) (nx d o)) () N
    rw [pr_nx]
  · intro d g h
    by_contra hg
    refine h (Finsupp.ext fun u => ?_)
    rw [tallyAt_ne_cell (fun e => hg (congrArg Prod.fst e))]

theorem bar_due (o : Fin 8) (c : Dev nD) :
    (Pipeline.launchCred (fun d => oweBar d o) c : sProp 𝕄) ⊢ cred (tallyAt (barC c) () 1) :=
  Pipeline.launchCred_tallyAt (.reg barS) (fun d => nx d o) (fun d => pr d o) (fun d => nx_pr d o) (fun d => pr_nx d o) () 1 c

theorem bar_seven (c : Dev nD) : (bigSep offs fun _ => cred (tallyAt (barC c) () 1)) = (cred (tallyAt (barC c) () 7) : sProp 𝕄) := by
  rw [← Pipeline.cred_finsetSum offs fun _ => tallyAt (barC c) () 1]
  refine congrArg cred ?_
  rw [Finset.sum_const, show offs.card = 7 from by decide]
  funext g
  refine Finsupp.ext fun u => ?_
  rw [Pi.smul_apply, Finsupp.smul_apply, tallyAt_apply, tallyAt_apply]
  split <;> rfl

theorem creds (c : Dev nD) : (Pipeline.launchCred (fun d => owedBar d 0) c : sProp 𝕄) ⊢ Creds c := by
  have e : (fun d : Dev nD => owedBar d 0) = fun d => (∑ o ∈ offs, oweRecv d o) + ∑ o ∈ offs, oweBar d o := by
    funext d; unfold owedBar owed above; rw [offs_filter]
  have h1 : (Pipeline.launchCred (fun d => owedBar d 0) c : sProp 𝕄)
      = iprop((bigSep offs fun o => Pipeline.launchCred (fun d => oweRecv d o) c) ∗ bigSep offs fun o => Pipeline.launchCred (fun d => oweBar d o) c) := by
    rw [e, Pipeline.launchCred_add, Pipeline.launchCred_sum offs (fun o d => oweRecv d o) c, Pipeline.launchCred_sum offs (fun o d => oweBar d o) c]
  have h2 : (bigSep offs fun o => (Pipeline.launchCred (fun d => oweRecv d o) c : sProp 𝕄)) = bigSep offs fun o => cred (tallyAt (recvC c (nx c o)) () N) :=
    bigSep_congr fun o _ => recv_due o c
  have h3 : (bigSep offs fun o => (Pipeline.launchCred (fun d => oweBar d o) c : sProp 𝕄)) ⊢ cred (tallyAt (barC c) () 7) :=
    (bigSep_mono fun o _ => bar_due o c).trans (of_eq (bar_seven c))
  rw [h1, h2]
  unfold Creds
  iintro ⟨H1, H2⟩
  isplitl [H2]; · iapply h3; iexact H2
  iexact H1

/-! ## The duties, device by device -/

/-- The duties a device pays: a peer's barrier, a departure, a peer's arrival (each by offset), its own local copy. -/
abbrev Duty : Type := (Fin 8 ⊕ Fin 8) ⊕ (Fin 8 ⊕ Unit)

def duty (x : Dev nD × Duty) : GSem nD τ sig × ℕ × Fin 8 :=
  match x.2 with
  | .inl (.inl o) => (barC (nx x.1 o), 0, o)
  | .inl (.inr o) => (sendC x.1 o, 0, 0)
  | .inr (.inl o) => (recvC (pr x.1 o) x.1, 0, 0)
  | .inr (.inr _) => (locC x.1, 0, 0)

/-- Which device pays a duty, and as which of its own. -/
def dutyBack (y : GSem nD τ sig × ℕ × Fin 8) : Dev nD × Duty :=
  match y.1.2 with
  | .reg _ => (pr y.1.1.1 y.2.2, .inl (.inl y.2.2))
  | .dma s =>
    if s.val < 11 then (y.1.1.1, .inl (.inr ⟨(s.val - 3) % 8, Nat.mod_lt _ (by decide)⟩))
    else if s.val < 19 then (⟨(s.val - 11) % 8, Nat.mod_lt _ (by decide)⟩, .inr (.inl ⟨(s.val - 11 + 8 - y.1.1.1.val) % 8, Nat.mod_lt _ (by decide)⟩))
    else (y.1.1.1, .inr (.inr ()))

theorem dutyBack_duty : ∀ x : Dev nD × Duty, dutyBack (duty x) = x := by decide +kernel
theorem duty_inj : Function.Injective duty := Function.LeftInverse.injective dutyBack_duty

def duties : Finset (GSem nD τ sig × ℕ × Fin 8) := Finset.univ.image duty

/-- The rights to device `c`'s duties. -/
def Pays (c : Dev nD) : sProp 𝕄 :=
  iprop(((bigSep Finset.univ fun o : Fin 8 => dutyTok ER (barC (nx c o)) 0 o) ∗ (bigSep Finset.univ fun o : Fin 8 => dutyTok ER (sendC c o) 0 0))
    ∗ ((bigSep Finset.univ fun o : Fin 8 => dutyTok ER (recvC (pr c o) c) 0 0) ∗ dutyTok ER (locC c) 0 0))

theorem duties_split : bigSep duties (fun x => (dutyTok ER x.1 x.2.1 x.2.2 : sProp 𝕄)) = bigSep Finset.univ fun c : Dev nD => Pays c := by
  unfold duties
  rw [bigSep_image_of_injOn duty_inj.injOn, bigSep_univ_prod]
  refine bigSep_congr fun c _ => ?_
  unfold Pays
  rw [bigSep_univ_sum, bigSep_univ_sum, bigSep_univ_sum]
  have e : (bigSep Finset.univ fun u : Unit => (dutyTok ER (duty (c, .inr (.inr u))).1 (duty (c, .inr (.inr u))).2.1 (duty (c, .inr (.inr u))).2.2 : sProp 𝕄))
      = dutyTok ER (locC c) 0 0 := bigSep_singleton
  rw [e]; rfl

theorem barC_inj : Function.Injective barC := fun c d h => congrArg (fun g : GSem nD τ sig => g.1.1) h
theorem bar_split (Φ : GSem nD τ sig → sProp 𝕄) : bigSep barCells Φ = bigSep Finset.univ fun c : Dev nD => Φ (barC c) := by
  unfold barCells; rw [bigSep_image_of_injOn barC_inj.injOn]

theorem osem_inj : Function.Injective osem := by decide +kernel
theorem ownC_inj : Function.Injective fun x : Dev nD × OwnK => ownC x.1 x.2 := fun x y h =>
  Prod.ext (congrArg (fun g : GSem nD τ sig => g.1.1) h) (osem_inj (congrArg Prod.snd h))
theorem own_split (Φ : GSem nD τ sig → sProp 𝕄) :
    bigSep ownCells Φ = bigSep Finset.univ fun c : Dev nD => bigSep Finset.univ fun k : OwnK => Φ (ownC c k) := by
  unfold ownCells; rw [bigSep_image_of_injOn ownC_inj.injOn, bigSep_univ_prod]

theorem cells_disj : Disjoint barCells ownCells := by
  unfold barCells ownCells
  rw [Finset.disjoint_left]
  intro g h1 h2
  obtain ⟨c, -, rfl⟩ := Finset.mem_image.mp h1
  obtain ⟨⟨d, (k | k) | k⟩, -, e⟩ := Finset.mem_image.mp h2 <;> exact absurd (congrArg Prod.snd e) (by intro h; cases h)

/-! ## What each device starts from -/

/-- The protocol's state on device `c` before the first host operation. -/
def Ghost (c : Dev nD) : sProp 𝕄 :=
  iprop((∃ κ, Inv (inputs m) κ) ∗ (bigSep Finset.univ fun d : Dev nD => reached ER (barC d) 0)
    ∗ atPos ER (barC c) 0 ∅ 0 ∗ (bigSep Finset.univ fun k : OwnK => openTok ER (ownC c k)) ∗ Pays c)

/-- And what it is dealt beside. -/
def Extra (c : Dev nD) : sProp 𝕄 := iprop(Ghost m c ∗ Creds c ∗ owesAny c (owedBar c 0))

theorem ghosts : iprop((bigSep Finset.univ fun c : Dev nD => (semVal (barC c) 0 : sProp 𝕄)) ∗ BI.own (ER (launchOf barCells ownCells duties)))
    ⊢ iprop(|={Set.univ}=> (bigSep Finset.univ fun c : Dev nD => Ghost m c)) := by
  have e1 : (bigSep Finset.univ fun c : Dev nD => (semVal (barC c) 0 : sProp 𝕄)) ⊢ bigSep barCells fun g => semVal g 0 := of_eq (bar_split fun g => semVal g 0).symm
  have e2 : (bigSep barCells fun g => (reached ER g 0 : sProp 𝕄)) ⊢ bigSep Finset.univ fun c : Dev nD => reached ER (barC c) 0 := of_eq (bar_split fun g => reached ER g 0)
  have e3 : (bigSep barCells fun g => (atPos ER g 0 ∅ 0 : sProp 𝕄)) ⊢ bigSep Finset.univ fun c : Dev nD => atPos ER (barC c) 0 ∅ 0 := of_eq (bar_split fun g => atPos ER g 0 ∅ 0)
  have e4 : (bigSep ownCells fun g => (openTok ER g : sProp 𝕄)) ⊢ bigSep Finset.univ fun c : Dev nD => bigSep Finset.univ fun k : OwnK => openTok ER (ownC c k) :=
    of_eq (own_split fun g => openTok ER g)
  have e5 : bigSep duties (fun x => (dutyTok ER x.1 x.2.1 x.2.2 : sProp 𝕄)) ⊢ bigSep Finset.univ fun c : Dev nD => Pays c := of_eq duties_split
  have ej : iprop((bigSep Finset.univ fun c : Dev nD => (atPos ER (barC c) 0 ∅ 0 : sProp 𝕄))
      ∗ (bigSep Finset.univ fun c : Dev nD => bigSep Finset.univ fun k : OwnK => (openTok ER (ownC c k) : sProp 𝕄)) ∗ (bigSep Finset.univ fun c : Dev nD => Pays c))
      ⊢ bigSep Finset.univ fun c : Dev nD => iprop(atPos ER (barC c) 0 ∅ 0 ∗ (bigSep Finset.univ fun k : OwnK => openTok ER (ownC c k)) ∗ Pays c) := by
    rw [bigSep_sep', bigSep_sep']
  have ep : ∀ c : Dev nD, c ∈ (Finset.univ : Finset (Dev nD)) → iprop(((∃ κ, Inv (inputs m) κ) ∗ (bigSep Finset.univ fun d : Dev nD => (reached ER (barC d) 0 : sProp 𝕄)))
      ∗ (atPos ER (barC c) 0 ∅ 0 ∗ (bigSep Finset.univ fun k : OwnK => openTok ER (ownC c k)) ∗ Pays c)) ⊢ Ghost m c := by
    intro c _
    unfold Ghost
    iintro ⟨⟨H1, H2⟩, H3⟩
    isplitl [H1]; · iexact H1
    isplitl [H2] <;> iassumption
  iintro ⟨Hs, Hu⟩
  ihave Hs := e1 $$ Hs
  imod (Rounds.fund_launch ER (Rd (inputs m)) cells_disj (fun g _ => id) duties) $$ [Hs Hu] with ⟨%κ, -, HI, HR, HA, HO, HD⟩
  · isplitl [Hs] <;> iassumption
  imodintro
  ihave HR := e2 $$ HR
  ihave HA := e3 $$ HA
  ihave HO := e4 $$ HO
  ihave HD := e5 $$ HD
  iapply (bigSep_with_persistent ep)
  isplitl [HI HR]
  · isplitl [HI]
    · iexists κ; unfold Inv; iexact HI
    · iexact HR
  iapply ej
  isplitl [HA]; · iexact HA
  isplitl [HO] <;> iassumption

theorem unscopedSems0_eq (c : Dev nD) : (unscopedSems0 c : sProp 𝕄) = semVal (barC c) 0 := by
  unfold unscopedSems0
  rw [bigSep_eq_bigSepL_of_eq [SemLoc.reg barS] (by decide) (by decide)]
  rfl

/-- The exchange's launch element, dealt to the first device. -/
def Seed (c : Dev nD) : sProp 𝕄 := if c = 0 then BI.own (ER (launchOf barCells ownCells duties)) else BI.emp

theorem seed_in : (BI.own (ER (launchOf barCells ownCells duties)) : sProp 𝕄) ⊢ bigSep Finset.univ fun c : Dev nD => Seed c := by
  rw [bigSep_univ_at (fun c : Dev nD => (Seed c : sProp 𝕄)) 0,
    bigSep_congr (s := Finset.univ.erase (0 : Dev nD)) (Φ := fun c : Dev nD => (Seed c : sProp 𝕄)) (Ψ := fun _ => BI.emp) fun c hc => if_neg (Finset.ne_of_mem_erase hc),
    BI.bigSep_emp_const]
  have e : (BI.own (ER (launchOf barCells ownCells duties)) : sProp 𝕄) ⊢ Seed 0 := of_eq (if_pos rfl).symm
  iintro H
  isplitl [H]; · iapply e; iexact H
  iempintro

theorem seed_out : (bigSep Finset.univ fun c : Dev nD => (Seed c : sProp 𝕄)) ⊢ BI.own (ER (launchOf barCells ownCells duties)) :=
  (bigSep_elim (Finset.mem_univ (0 : Dev nD))).trans (of_eq (if_pos rfl))

variable (ρ : Dev nD → PrngReg)

/-- The first thread state: every unscoped buffer at its launch contents, and the protocol's state. -/
def First (c : Dev nD) : sProp 𝕄 := iprop(StableHlo.held (c : Thread nD τ) (Pipeline.ucRefs τ sig) (V0 m c) ∗ Extra m c)

theorem launch_state :
    iprop((bigSep Finset.univ fun c : Dev nD => iprop(unscopedBufs c (fun b => m ((c : Thread nD τ).loc b)) ∗ unscopedSems0 c
          ∗ owes (c : Thread nD τ) (owedBar c 0) ∅ ∗ Pipeline.launchCred (fun d => owedBar d 0) c ∗ prngReg c (ρ c) ∗ Seed c)) ∗ levAts L lv)
      ⊢ iprop(|={Set.univ}=> (bigSep Finset.univ (First m) : sProp 𝕄)) := by
  have h1 : ∀ c : Dev nD, iprop(unscopedBufs c (fun b => m ((c : Thread nD τ).loc b)) ∗ unscopedSems0 c
          ∗ owes (c : Thread nD τ) (owedBar c 0) ∅ ∗ Pipeline.launchCred (fun d => owedBar d 0) c ∗ prngReg c (ρ c) ∗ Seed c)
      ⊢ (iprop((semVal (barC c) 0 ∗ Seed c) ∗ (StableHlo.held (c : Thread nD τ) (Pipeline.ucRefs τ sig) (V0 m c) ∗ Creds c ∗ owesAny c (owedBar c 0))) : sProp 𝕄) := by
    intro c
    rw [unscopedSems0_eq]
    have hb : (unscopedBufs c (fun b => m ((c : Thread nD τ).loc b)) : sProp 𝕄) ⊢ StableHlo.held (c : Thread nD τ) (Pipeline.ucRefs τ sig) (V0 m c) :=
      of_eq (Pipeline.unscopedBufs_held (Ix := Unit) (Name := ℕ) (U := UU) (Lvl := ℕ) c (V0 m c))
    iintro ⟨Hb, Hs, Ho, Hc, -, HG⟩
    ihave Hb := hb $$ Hb
    ihave Hc := (creds c) $$ Hc
    isplitl [Hs HG]
    · isplitl [Hs] <;> iassumption
    isplitl [Hb]; · iexact Hb
    isplitl [Hc]; · iexact Hc
    unfold owesAny; iexists _; iexact Ho
  have h20 : (bigSep Finset.univ fun c : Dev nD => (iprop((semVal (barC c) 0 ∗ Seed c) ∗ (StableHlo.held (c : Thread nD τ) (Pipeline.ucRefs τ sig) (V0 m c) ∗ Creds c ∗ owesAny c (owedBar c 0))) : sProp 𝕄))
      ⊢ iprop(((bigSep Finset.univ fun c : Dev nD => semVal (barC c) 0) ∗ (bigSep Finset.univ fun c : Dev nD => Seed c))
        ∗ (bigSep Finset.univ fun c : Dev nD => iprop(StableHlo.held (c : Thread nD τ) (Pipeline.ucRefs τ sig) (V0 m c) ∗ Creds c ∗ owesAny c (owedBar c 0)))) := by
    rw [bigSep_sep', bigSep_sep' Finset.univ (fun c : Dev nD => (semVal (barC c) 0 : sProp 𝕄)) (fun c => Seed c)]
  have h2 : _ ⊢ (_ : sProp 𝕄) := (bigSep_mono (s := (Finset.univ : Finset (Dev nD))) fun c _ => h1 c).trans h20
  have h3 : ∀ c : Dev nD, c ∈ (Finset.univ : Finset (Dev nD)) → iprop(Ghost m c ∗ (StableHlo.held (c : Thread nD τ) (Pipeline.ucRefs τ sig) (V0 m c) ∗ Creds c ∗ owesAny c (owedBar c 0))) ⊢ (First m c : sProp 𝕄) := by
    intro c _
    unfold First Extra
    iintro ⟨H1, H2, H3⟩
    isplitl [H2]; · iexact H2
    isplitl [H1] <;> iassumption
  have h4 : iprop((bigSep Finset.univ fun c : Dev nD => Ghost m c) ∗ (bigSep Finset.univ fun c : Dev nD => iprop(StableHlo.held (c : Thread nD τ) (Pipeline.ucRefs τ sig) (V0 m c) ∗ Creds c ∗ owesAny c (owedBar c 0))))
      ⊢ (bigSep Finset.univ (First m) : sProp 𝕄) := by
    rw [← bigSep_sep']; exact bigSep_mono h3
  iintro ⟨H, -⟩
  ihave H := h2 $$ H
  icases H with ⟨⟨Hs, HS⟩, Hr⟩
  ihave HS := seed_out $$ HS
  imod (ghosts m) $$ [Hs HS] with HG
  · isplitl [Hs] <;> iassumption
  imodintro
  iapply h4
  isplitl [HG] <;> iassumption

end Cert.KernelIdeal.Exchange

end
-- ==== Proof.Ideal.Region.lean ====
module

public import proofs.«01_k».proof.Proof.Ideal.Ghost

public import Idealize.ShloMosaic.Lib.Pipeline.Regions
public import Idealize.ShloMosaic.Lib.Pipeline.Sound
public import Idealize.ShloMosaic.Lib.Rounds.Family

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ)

/-! ## The state before the first point -/

theorem offs_sep (Φ Ψ : Fin 8 → sProp 𝕄) : iprop(bigSep offs Φ ∗ bigSep offs Ψ) ⊢ bigSep offs fun o => iprop(Φ o ∗ Ψ o) := of_eq (bigSep_sep' offs Φ Ψ).symm
theorem offs_unsep (Φ Ψ : Fin 8 → sProp 𝕄) : (bigSep offs fun o => iprop(Φ o ∗ Ψ o)) ⊢ iprop(bigSep offs Φ ∗ bigSep offs Ψ) := of_eq (bigSep_sep' offs Φ Ψ)

/-- Everything the first point starts from but the scratch buffers and the table: the credits, the barrier's position,
    the rights to the duties, the own cells opened, the row blocks. -/
def Ready (c : Dev nD) : sProp 𝕄 :=
  iprop((∃ κ, Inv (inputs m) κ) ∗ levAts L lv ∗ Creds c ∗ atPos ER (barC c) 0 ∅ 0 ∗ (bigSep Finset.univ fun d : Dev nD => reached ER (barC d) 0)
    ∗ Pays c ∗ (bigSep Finset.univ fun k : OwnK => iprop(atPos ER (ownC c k) 0 ∅ 0 ∗ reached ER (ownC c k) 0)) ∗ bigSep Finset.univ (rowPts (inputs m) c))

theorem sig_start (c : Dev nD) :
    iprop((bigSep Finset.univ fun d : Dev nD => (reached ER (barC d) 0 : sProp 𝕄)) ∗ (bigSep offs fun o => dutyTok ER (barC (nx c o)) 0 o)
      ∗ (bigSep offs fun o => slotAny (F := F) c (nx c o)) ∗ (bigSep offs fun o => reached ER (recvC c (nx c o)) 0)) ⊢ Sig (F := F) c 0 := by
  have e : ∀ o ∈ offs, iprop((bigSep Finset.univ fun d : Dev nD => (reached ER (barC d) 0 : sProp 𝕄)) ∗ (dutyTok ER (barC (nx c o)) 0 o ∗ (slotAny (F := F) c (nx c o) ∗ reached ER (recvC c (nx c o)) 0)))
      ⊢ (if o.val ≤ 0 then BI.emp else sigSt (F := F) c o) := by
    intro o ho
    rw [if_neg (by have := ne_of_offs ho; intro h; exact this (Fin.ext (Nat.le_zero.mp h)))]
    have er : (bigSep Finset.univ fun d : Dev nD => (reached ER (barC d) 0 : sProp 𝕄)) ⊢ reached ER (barC (nx c o)) 0 := bigSep_elim (Finset.mem_univ (nx c o))
    unfold sigSt
    iintro ⟨HR, Hd, Hs, Hr⟩
    isplitl [HR]; · iapply er; iexact HR
    isplitl [Hd]; · iexact Hd
    isplitl [Hs] <;> iassumption
  unfold Sig
  iintro ⟨HR, Hd, Hs, Hr⟩
  iapply (bigSep_with_persistent e)
  isplitl [HR]; · iexact HR
  iapply (offs_sep (fun o => (dutyTok ER (barC (nx c o)) 0 o : sProp 𝕄)) (fun o => iprop(slotAny (F := F) c (nx c o) ∗ reached ER (recvC c (nx c o)) 0)))
  isplitl [Hd]; · iexact Hd
  iapply (offs_sep (fun o => slotAny (F := F) c (nx c o)) (fun o => (reached ER (recvC c (nx c o)) 0 : sProp 𝕄)))
  isplitl [Hs] <;> iassumption

theorem pend_start (c : Dev nD) :
    iprop((bigSep offs fun o => rowPts (inputs m) c (pr c o)) ∗ (bigSep offs fun o => dutyTok ER (sendC c o) 0 0)
      ∗ (bigSep offs fun o => dutyTok ER (recvC (pr c o) c) 0 0) ∗ (bigSep offs fun o => iprop(atPos ER (sendC c o) 0 ∅ 0 ∗ reached ER (sendC c o) 0)))
      ⊢ bigSep offs (pend0 (inputs m) c) := by
  have e : ∀ o ∈ offs, iprop(rowPts (inputs m) c (pr c o) ∗ (dutyTok ER (sendC c o) 0 0 ∗ (dutyTok ER (recvC (pr c o) c) 0 0 ∗ (atPos ER (sendC c o) 0 ∅ 0 ∗ reached ER (sendC c o) 0)))) ⊢ pend0 (inputs m) c o := by
    intro o _
    unfold pend0
    iintro ⟨H1, H2, H3, H4, H5⟩
    isplitl [H1]; · iexact H1
    isplitl [H2]; · iexact H2
    isplitl [H3]; · iexact H3
    isplitl [H5] <;> iassumption
  have e' : (bigSep offs fun o => iprop(rowPts (inputs m) c (pr c o) ∗ (dutyTok ER (sendC c o) 0 0 ∗ (dutyTok ER (recvC (pr c o) c) 0 0 ∗ (atPos ER (sendC c o) 0 ∅ 0 ∗ reached ER (sendC c o) 0)))))
      ⊢ bigSep offs (pend0 (inputs m) c) := bigSep_mono e
  iintro ⟨H1, H2, H3, H4⟩
  iapply e'
  iapply (offs_sep (fun o => rowPts (inputs m) c (pr c o)) (fun o => iprop(dutyTok ER (sendC c o) 0 0 ∗ (dutyTok ER (recvC (pr c o) c) 0 0 ∗ (atPos ER (sendC c o) 0 ∅ 0 ∗ reached ER (sendC c o) 0)))))
  isplitl [H1]; · iexact H1
  iapply (offs_sep (fun o => (dutyTok ER (sendC c o) 0 0 : sProp 𝕄)) (fun o => iprop(dutyTok ER (recvC (pr c o) c) 0 0 ∗ (atPos ER (sendC c o) 0 ∅ 0 ∗ reached ER (sendC c o) 0))))
  isplitl [H2]; · iexact H2
  iapply (offs_sep (fun o => (dutyTok ER (recvC (pr c o) c) 0 0 : sProp 𝕄)) (fun o => iprop(atPos ER (sendC c o) 0 ∅ 0 ∗ reached ER (sendC c o) 0)))
  isplitl [H3] <;> iassumption

theorem in_start (c : Dev nD) :
    iprop((bigSep offs fun o => (cred (tallyAt (recvC c (nx c o)) () N) : sProp 𝕄)) ∗ (bigSep offs fun o => atPos ER (recvC c (nx c o)) 0 ∅ 0)) ⊢ In (inputs m) c 1 := by
  have e : (bigSep offs fun o => (iprop(cred (tallyAt (recvC c (nx c o)) () N) ∗ atPos ER (recvC c (nx c o)) 0 ∅ 0) : sProp 𝕄)) ⊢ In (inputs m) c 1 := by
    unfold In
    refine bigSep_mono fun o ho => ?_
    rw [if_neg (by have := ne_of_offs ho; intro h; exact this (Fin.ext (Nat.lt_one_iff.mp h)))]
    unfold expecting
    exact BI.Entails.refl _
  iintro H
  iapply e
  iapply (offs_sep (fun o => (cred (tallyAt (recvC c (nx c o)) () N) : sProp 𝕄)) (fun o => (atPos ER (recvC c (nx c o)) 0 ∅ 0 : sProp 𝕄)))
  iexact H

theorem acc_start (c : Dev nD) : (bigSep Finset.univ (fun n : Fin 4 => iprop(∃ Y, chunkPts (F := F) c n Y))) ⊢ Acc (inputs m) c 0 := by
  unfold Acc
  refine bigSep_mono fun n _ => ?_
  rw [show (0 + 3 - n.val) / 4 = 0 from by omega]
  exact BI.Entails.refl _

theorem own_cut (c : Dev nD) :
    (bigSep Finset.univ fun k : OwnK => (iprop(atPos ER (ownC c k) 0 ∅ 0 ∗ reached ER (ownC c k) 0) : sProp 𝕄))
      ⊢ iprop(((bigSep Finset.univ fun o : Fin 8 => iprop(atPos ER (sendC c o) 0 ∅ 0 ∗ reached ER (sendC c o) 0))
        ∗ (bigSep Finset.univ fun k : Fin 8 => iprop(atPos ER (recvC c k) 0 ∅ 0 ∗ reached ER (recvC c k) 0))) ∗ (atPos ER (locC c) 0 ∅ 0 ∗ reached ER (locC c) 0)) :=
  of_eq (own_family _)

theorem mid_start (c : Dev nD) : iprop(Ready m c ∗ Tbl (inputs m) c ∗ Scratch c) ⊢ Mid m c 0 := by
  have eF : Start (inputs m) c ⊢ Front (inputs m) c 0 := of_eq (if_pos rfl).symm
  have eI : In (inputs m) c 1 ⊢ In (inputs m) c (inB 0) := of_eq rfl
  unfold Ready Creds Pays Mid
  iintro ⟨⟨HI, HL, ⟨Hc7, Hcr⟩, Hb, HR, ⟨⟨Hdb, Hds⟩, Hdr, Hdl⟩, Hown, Hrow⟩, HT, HS⟩
  ihave HS := (scratch_cut c) $$ HS
  icases HS with ⟨Hsl, Hch, Hre⟩
  ihave Hsl := (ring_cut c (fun k => slotAny (F := F) c k)) $$ Hsl
  icases Hsl with ⟨Hslc, Hsl⟩
  ihave Hrow := (ring_cut_back c (fun r => rowPts (inputs m) c r)) $$ Hrow
  icases Hrow with ⟨Hrc, Hrow⟩
  ihave Hown := (own_cut c) $$ Hown
  icases Hown with ⟨⟨Hsd, Hrv⟩, Hla, Hlr⟩
  ihave Hsd := (offs_cut (fun o : Fin 8 => (iprop(atPos ER (sendC c o) 0 ∅ 0 ∗ reached ER (sendC c o) 0) : sProp 𝕄))) $$ Hsd
  icases Hsd with ⟨⟨Hs0, -⟩, Hsd⟩
  ihave Hrv := (ring_cut c (fun k : Fin 8 => (iprop(atPos ER (recvC c k) 0 ∅ 0 ∗ reached ER (recvC c k) 0) : sProp 𝕄))) $$ Hrv
  icases Hrv with ⟨⟨Hr0, -⟩, Hrv⟩
  ihave Hrv := (offs_unsep (fun o : Fin 8 => (atPos ER (recvC c (nx c o)) 0 ∅ 0 : sProp 𝕄)) (fun o => reached ER (recvC c (nx c o)) 0)) $$ Hrv
  icases Hrv with ⟨Hra, Hrr⟩
  ihave Hdb := (offs_cut (fun o : Fin 8 => (dutyTok ER (barC (nx c o)) 0 o : sProp 𝕄))) $$ Hdb
  icases Hdb with ⟨-, Hdb⟩
  ihave Hds := (offs_cut (fun o : Fin 8 => (dutyTok ER (sendC c o) 0 0 : sProp 𝕄))) $$ Hds
  icases Hds with ⟨-, Hds⟩
  ihave Hdr := (offs_cut (fun o : Fin 8 => (dutyTok ER (recvC (pr c o) c) 0 0 : sProp 𝕄))) $$ Hdr
  icases Hdr with ⟨-, Hdr⟩
  isplitl [HI]; · iexact HI
  isplitl [HL]; · iexact HL
  isplitl [Hrc Hslc Hdl Hlr Hla HR Hdb Hsl Hrr Hc7 Hb Hrow Hds Hdr Hsd]
  · iapply eF
    unfold Start loc0
    isplitl [Hrc Hslc Hdl Hlr Hla]
    · isplitl [Hrc]; · iexact Hrc
      isplitl [Hslc]; · iexact Hslc
      isplitl [Hdl]; · iexact Hdl
      isplitl [Hlr] <;> iassumption
    isplitl [HR Hdb Hsl Hrr]
    · iapply (sig_start c)
      isplitl [HR]; · iexact HR
      isplitl [Hdb]; · iexact Hdb
      isplitl [Hsl] <;> iassumption
    isplitl [Hc7]; · iexact Hc7
    isplitl [Hb]; · iexact Hb
    iapply (pend_start m c)
    isplitl [Hrow]; · iexact Hrow
    isplitl [Hds]; · iexact Hds
    isplitl [Hdr] <;> iassumption
  isplitl [Hcr Hra]
  · iapply eI
    iapply (in_start m c)
    isplitl [Hcr] <;> iassumption
  isplitl [Hs0 Hr0]
  · unfold Idle; isplitl [Hs0] <;> iassumption
  isplitl [Hch]; · iapply (acc_start m c); iexact Hch
  isplitl [HT]; · iexact HT
  iexact Hre

/-! ## The region's record -/

theorem last_not : ¬ (Fin.last grid0.N).val < 32 := by rw [Fin.val_last, N_0]; decide
theorem phi_first (c : Dev nD) : (dat m c).Φ (0 : Fin (grid0.N + 1)) = Mid m c 0 := by
  show (if (0 : Fin (grid0.N + 1)).val < 32 then Mid m c (0 : Fin (grid0.N + 1)).val else Done m c) = _
  exact if_pos (by decide)
theorem phi_last (c : Dev nD) : (dat m c).Φ (Fin.last grid0.N) = Done m c := by
  show (if (Fin.last grid0.N).val < 32 then Mid m c (Fin.last grid0.N).val else Done m c) = _
  exact if_neg last_not
theorem owed_first (c : Dev nD) : (dat m c).owed (0 : Fin (grid0.N + 1)) = owedBar c 0 := by
  show (if (0 : Fin (grid0.N + 1)).val < 32 then owedB c (0 : Fin (grid0.N + 1)).val else 0) = _
  exact if_pos (by decide)
theorem owed_last (c : Dev nD) : (dat m c).owed (Fin.last grid0.N) = 0 := by
  show (if (Fin.last grid0.N).val < 32 then owedB c (Fin.last grid0.N).val else 0) = _
  exact if_neg last_not

abbrev admD : Dev nD → (p : Fin 1) → (pcfgs (F := F) p).Adm := fun c _ => adm c
abbrev pdats (p : Fin 1) (c : Dev nD) : Dat τ (Elt F) Unit ℕ UU ℕ (Pipeline.pinD (pcfgs (F := F)) admD c p) c := dat m c

theorem pref_eq (c : Dev nD) :
    (Pipeline.prefHeld (Ix := Unit) (Name := ℕ) (U := UU) (Lvl := ℕ) (Val := Elt F) pre0 c (fun _ => fullShare) (pfT c) : sProp 𝕄) = Tbl (inputs m) c := by
  unfold Pipeline.prefHeld
  rw [bigSep_univ_eq_bigSepL [(0 : Fin pre0.K)] (by decide) (by decide)]
  rfl

theorem share_full (c : Dev nD) : ∀ w : Fin 2, (dat (F := F) m c).share w = fullShare
  | 0 => rfl
  | 1 => rfl

theorem arrays_eq (c : Dev nD) (A : (w : Fin 2) → Buf (Elt F) (((cfg0 (F := F) (adm c)).win w).arr.view.loc (c : Thread nD τ))) :
    (dat m c).arrays A = iprop(((c : Thread nD τ).loc main_arg1 ↦{fullShare} A 0) ∗ ((c : Thread nD τ).loc main_v11 ↦{fullShare} A 1)) := by
  have h := Pipeline.PerCore.arrays_eq (Pipeline.pinD (pcfgs (F := F)) admD) (pdats m) 0 c arr_whole0 (share_full m c) A
  rw [bigSep_W0] at h
  exact h

/-- The five buffers the kernel's run is about. -/
abbrev used : Finset (DevRef τ sig) := {Proc.devRef .tc main_arg0, Proc.devRef .tc main_arg1, Proc.devRef .tc main_v11, Proc.devRef .tc main_v10, Proc.devRef .tc main_v1}

theorem held_take (c : Dev nD) (V : Valuation τ sig (Elt F)) :
    StableHlo.held (c : Thread nD τ) (Pipeline.ucRefs τ sig) V
      ⊢ (iprop(((c : Thread nD τ).loc main_arg0 ↦{fullShare} V main_arg0) ∗ ((c : Thread nD τ).loc main_arg1 ↦{fullShare} V main_arg1)
        ∗ ((c : Thread nD τ).loc main_v11 ↦{fullShare} V main_v11) ∗ ((c : Thread nD τ).loc main_v10 ↦{fullShare} V main_v10)
        ∗ ((c : Thread nD τ).loc main_v1 ↦{fullShare} V main_v1)) : sProp 𝕄) := by
  unfold StableHlo.held
  refine (bigSep_subset (t := used) (by decide)).trans (of_eq ?_)
  rw [bigSep_insert (by decide), bigSep_insert (by decide), bigSep_insert (by decide), bigSep_insert (by decide), bigSep_singleton]
  rfl

/-- The own cells opened from their counters at zero. -/
theorem own_open (c : Dev nD) :
    iprop((∃ κ, Inv (inputs m) κ) ∗ (bigSep Finset.univ fun k : OwnK => (openTok ER (ownC c k) : sProp 𝕄)) ∗ Quiet (F := F) c)
      ⊢ iprop(|={Set.univ}=> (bigSep Finset.univ fun k : OwnK => (iprop(atPos ER (ownC c k) 0 ∅ 0 ∗ reached ER (ownC c k) 0) : sProp 𝕄))) := by
  have hi : ∀ κ, ∀ k ∈ (Finset.univ : Finset OwnK), iprop(Inv (inputs m) κ ∗ openTok ER (ownC c k)) ⊢ iprop(cellInv ER (Rd (inputs m)) (κ (ownC c k)) (ownC c k) ∗ openTok ER (ownC c k)) :=
    fun κ k _ => sep_mono_left (bigSep_elim (ownC_mem c k))
  unfold Quiet
  iintro ⟨⟨%κ, HI⟩, HO, HQ⟩
  iapply (Rounds.cells_open ER (Rd (inputs m)) Finset.univ (fun k : OwnK => ownC c k) (fun k => κ (ownC c k)) (fun k _ => Set.mem_univ _))
  isplitl [HI HO]
  · iapply (bigSep_with_persistent (hi κ))
    isplitl [HI] <;> iassumption
  iexact HQ

instance someInv_persistent : BI.Persistent (iprop(∃ κ, Inv (inputs m) κ) : sProp 𝕄) := by infer_instance

/-- What the region leaves: the arguments as launched, the result, the barrier at zero. -/
def Final (c : Dev nD) : sProp 𝕄 :=
  iprop(((c : Thread nD τ).loc main_arg0 ↦{fullShare} V1 m c main_arg0) ∗ ((dat m c).arrays ((dat m c).arrAt · (cfg0 (F := F) (adm c)).N)) ∗ semVal (barC c) 0)

theorem entry (c : Dev nD) :
    iprop((StableHlo.held (c : Thread nD τ) (Pipeline.ucRefs τ sig) (V1 m c) ∗ Extra m c) ∗ Quiet (F := F) c ∗ levAts L lv)
      ⊢ iprop(|={Set.univ}=> ((dat m c).arrays ((dat m c).arrAt · 0)
        ∗ Pipeline.prefHeld (Ix := Unit) (Name := ℕ) (U := UU) (Lvl := ℕ) (Val := Elt F) pre0 c (fun _ => fullShare) (pfT c)
        ∗ (dat m c).owesAt () 0 ∗ Ready m c ∗ ((c : Thread nD τ).loc main_arg0 ↦{fullShare} V1 m c main_arg0))) := by
  rw [arrays_eq, pref_eq m]
  have eT : ((c : Thread nD τ).loc main_v10 ↦{fullShare} V1 m c main_v10 : sProp 𝕄) ⊢ Tbl (inputs m) c := by
    rw [V1_v10]; exact BI.Entails.refl _
  have eX : ((c : Thread nD τ).loc main_v1 ↦{fullShare} V1 m c main_v1 : sProp 𝕄) ⊢ bigSep Finset.univ (rowPts (inputs m) c) := by
    rw [V1_v1]; exact rows_cut (inputs m) c
  have eO : (owesAny c (owedBar c 0) : sProp 𝕄) ⊢ (dat m c).owesAt () 0 := owes_in (dat m c) 0 (owed_first m c) rfl
  unfold Extra Ghost Ready
  iintro ⟨⟨Hh, ⟨#HI, HR, Hb, HO, HP⟩, HC, Hw⟩, HQ, HL⟩
  ihave Hh := (held_take c (V1 m c)) $$ Hh
  icases Hh with ⟨H0, H1, H11, H10, Hx⟩
  ihave HT := eT $$ H10
  ihave Hx := eX $$ Hx
  ihave Hw := eO $$ Hw
  imod (own_open m c) $$ [HO HQ] with Hown
  · isplitr; · iexact HI
    isplitl [HO] <;> iassumption
  imodintro
  isplitl [H1 H11]
  · isplitl [H1]; · iexact H1
    iexact H11
  isplitl [HT]; · iexact HT
  isplitl [Hw]; · iexact Hw
  isplitr [H0]
  · isplitr; · iexact HI
    isplitl [HL]; · iexact HL
    isplitl [HC]; · iexact HC
    isplitl [Hb]; · iexact Hb
    isplitl [HR]; · iexact HR
    isplitl [HP]; · iexact HP
    isplitl [Hown] <;> iassumption
  · iexact H0

theorem waits (c : Dev nD) (w : Fin 2) (s : Fin ((cfg0 (F := F) (adm c)).win w).nbuf) (t : Fin ((cfg0 (F := F) (adm c)).N + 1)) :
    (levAts L lv : sProp 𝕄) ⊢ MayWait (c : Thread nD τ) (.dma (((cfg0 (F := F) (adm c)).win w).sem s)) () ((dat m c).owed t) := by
  have hs : (((cfg0 (F := F) (adm c)).win w).sem s).val < 11 := by
    revert s; revert w; exact (show ∀ (w : Fin 2) (s : Fin (spec0 w).nbuf), ((spec0 w).sem s).val < 11 from by decide)
  show (levAts L lv : sProp 𝕄) ⊢ MayWait (c : Thread nD τ) _ () (if t.val < 32 then owedB c t.val else 0)
  split
  · unfold owedB
    split
    · exact mayWait_lowBar c _ (.inl hs) 0
    · exact mayWait_low c _ (.inl hs) _
  · rw [← owed_seven c 7 le_rfl]; exact mayWait_low c _ (.inl hs) _

theorem ownFacts : Pipeline.OwnSemFacts spec0 osem := by decide

local notation "ℝ𝕊" => Pipeline.PerCore.RegionSeg (pcfgs (F := F)) admD (pdats m) () defs₀ 𝒱₀ L lv

def reg : ℝ𝕊 0 where
  win := winFacts0.to₀
  block_pos := block_pos0
  stage_whole := stage_whole0
  K := OwnK
  fK := inferInstance
  osem := osem
  ho := ownFacts
  hbody c := (body m c).loose
  hwaits c := Pipeline.PerCore.cellsWaits_intro (Pipeline.pinD (pcfgs (F := F)) admD) (pdats m) () 0 c (waits m c)
  pre c := iprop(StableHlo.held (c : Thread nD τ) (Pipeline.ucRefs τ sig) (V1 m c) ∗ Extra m c)
  post c := iprop(Final m c ∗ ∃ W, owes (c : Thread nD τ) (0 : CellTallies nD τ sig Unit) W)
  X c := Ready m c
  Y c := semVal (barC c) 0
  Z c := ((c : Thread nD τ).loc main_arg0 ↦{fullShare} V1 m c main_arg0)
  hentry c := entry m c
  hin c := by
    have e1 := of_eq (pref_eq (F := F) m c)
    have e2 : Mid m c 0 ⊢ (dat m c).Φ 0 := of_eq (phi_first m c).symm
    have e3 : (Pipeline.scopedRest (Ix := Unit) (Name := ℕ) (U := UU) (Lvl := ℕ) (Val := Elt F) spec0 c : sProp 𝕄) ⊢ Scratch c := of_eq (scopedRest0_eq c)
    iintro ⟨HX, HP, HS⟩
    iapply e2
    iapply (mid_start m c)
    isplitl [HX]; · iexact HX
    isplitl [HP]; · iapply e1; iexact HP
    iapply e3; iexact HS
  hout c := by
    have e2 : (dat m c).Φ (Fin.last (cfg0 (F := F) (adm c)).N) ⊢ Done m c := of_eq (phi_last m c)
    have e3 : Scratch c ⊢ (Pipeline.scopedRest (Ix := Unit) (Name := ℕ) (U := UU) (Lvl := ℕ) (Val := Elt F) spec0 c : sProp 𝕄) := of_eq (scopedRest0_eq c).symm
    have e4 : Done m c ⊢ iprop(semVal (barC c) 0 ∗ Quiet (F := F) c ∗ (Pipeline.scopedRest (Ix := Unit) (Name := ℕ) (U := UU) (Lvl := ℕ) (Val := Elt F) spec0 c : sProp 𝕄)) := by
      unfold Done
      iintro ⟨HS, HQ, Hb, -⟩
      isplitl [Hb]; · iexact Hb
      isplitl [HQ]; · iexact HQ
      iapply e3; iexact HS
    exact e2.trans e4
  hexit c := by
    have eO : ((dat m c).owesAt () (Fin.last (cfg0 (F := F) (adm c)).N) : sProp 𝕄) ⊢ owesAny c 0 := owes_out (dat m c) _ (owed_last m c)
    unfold Final
    iintro ⟨HA, HO, HY, HZ⟩
    imodintro
    isplitr [HO]
    · isplitl [HZ]; · iexact HZ
      isplitl [HA] <;> iassumption
    · ihave HO := eO $$ HO
      unfold owesAny
      iexact HO

end Cert.KernelIdeal.Exchange

end
-- ==== Proof.Ideal.Run.lean ====
module

public import proofs.«01_k».proof.Proof.Ideal.Region

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The run -/

theorem cellOf_injD : Function.Injective (Pipeline.PerCore.cellOf (nD := nD) (τ := τ) (Pipeline.pinD (pcfgs (F := F)) admD)) :=
  Pipeline.PerCore.cellOf_injective (Pipeline.pinD (pcfgs (F := F)) admD)
    (fun _ _ => Pipeline.specSemsDistinct_of_nodup spec0 (semsDistinct 0))
    (fun _ p p' h => absurd (Subsingleton.elim p p') h)

abbrev segsD (c : Dev nD) : List (Pipeline.PerCore.Seg (pcfgs (F := F)) admD (pdats m) () defs₀ 𝒱₀ L lv) :=
  [.host (seg0 m 𝒱₀ L lv (fun _ => Extra m) c), .region (reg m)]

def u₀ : UU :=
  (initOf (Pipeline.PerCore.cells (Pipeline.pinD (pcfgs (F := F)) admD) cellOf_injD) (Pipeline.PerCore.launchToks (Pipeline.pinD (pcfgs (F := F)) admD) cellOf_injD),
    launchOf barCells ownCells duties)

theorem sem_eq_zero {s : MemSt nD τ sig (Elt F)} (h : ∀ g' : GSem nD τ sig, (g'.1.2 ≠ .tc ∨ g'.2.isScoped .tc = true) → s.sem g' = 0)
    (hb : ∀ c : Dev nD, s.sem (barC c) = 0) : s.sem = fun _ => 0 := by
  funext g
  by_cases h1 : g.1.2 ≠ .tc ∨ g.2.isScoped .tc = true
  · exact h g h1
  rcases g with ⟨⟨d, p⟩, sm⟩
  have hp : p = .tc := by by_contra hp; exact h1 (.inl hp)
  subst hp
  have hs : sm.isScoped .tc ≠ true := fun hs => h1 (.inr hs)
  have : sm = .reg barS := by clear h1; revert sm; decide
  subst this
  exact hb d

-- the theorem's implicit arguments are found by unifying its conclusion with this one, which takes unfolding plain
-- definitions in a metavariable's type
set_option backward.isDefEq.respectTransparency.types false in
/-- Every weakly fair run of @main from any memory with zero counters ends with each device's arguments as launched, its
    result what the windows' data name, and every counter zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v11) = (dat m c).arrAt (1 : Fin 2) grid0.N) ∧ r.2.sem = fun _ => 0) :=
  Pipeline.PerCore.θ_run_regions_kit_sems (pcfgs (F := F)) admD (pdats m) () cellOf_injD EP defs₀ 𝒱₀ L lv m ρ main (segsD m)
    (fun c Q => by
      rewrite [main_chain c, Pipeline.PerCore.Seg.run_eq_chain,
        show (segsD m c).map Pipeline.PerCore.Seg.prog = [
          StableHlo.seq (hostOps0 c),
          Prog.lift (.customCall (Pipeline.entry 0) ()) ] from rfl]
      dsimp (config := { failIfUnchanged := false }) only
      exact .rfl)
    (fun c => by simp only [segsD, Pipeline.PerCore.Seg.pipes_host, Pipeline.PerCore.Seg.pipes_region, Pipeline.PerCore.Seg.pipes_nil]; decide)
    (O₀ := fun c => owedBar c 0) (hL := L_of_ne) (G := fun c => Seed c) (u₀ := u₀ (F := F))
    (hu₀ := by
      unfold u₀
      iintro Hu
      ihave H := (ownU_pair _ _) $$ Hu
      icases H with ⟨HP, HX⟩
      ihave HX := seed_in $$ HX
      imodintro
      isplitl [HP]; · iexact HP
      iexact HX)
    (T₀ := First m) (Tₙ := Final m)
    (hch := fun c => ⟨.rfl, .rfl, .rfl⟩)
    (hinit := launch_state m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v11) = (dat m c).arrAt (1 : Fin 2) grid0.N) ∧ s.sem (barC c) = 0)
    (hfin := fun c s' => by
      have eA := of_eq (arrays_eq m c ((dat m c).arrAt · grid0.N))
      have e0 : V1 m c main_arg0 = m ((c : Thread nD τ).loc main_arg0) := V1_of m c main_arg0 (by decide)
      have e1 : (dat m c).arrAt (0 : Fin 2) grid0.N = m ((c : Thread nD τ).loc main_arg1) :=
        ((dat m c).arrAt_in (0 : Fin 2) rfl grid0.N).trans (V1_of m c main_arg1 (by decide))
      unfold Final
      iintro ⟨⟨H0, HA, Hb⟩, HSI⟩
      ihave HA := eA $$ HA
      icases HA with ⟨H1, H11⟩
      icombine HSI H0 gives %h0
      icombine HSI H1 gives %h1
      icombine HSI H11 gives %h11
      icombine HSI Hb gives %hb
      imodintro
      isplitr
      · ipureintro
        exact ⟨⟨(Buf.eq_of_forall_mem_univ h0).trans e0, (Buf.eq_of_forall_mem_univ h1).trans e1, Buf.eq_of_forall_mem_univ h11⟩, by simpa⟩
      iexact HSI)
    (hQ := fun s h hs => ⟨fun c => (h c).1, sem_eq_zero hs fun c => (h c).2⟩)

end Cert.KernelIdeal.Exchange

end
-- ==== Proof.Ideal.Value.lean ====
module

public import proofs.«01_k».proof.Proof.Ideal.Run

public import Idealize.ShloMosaic.Lib.Pipeline.ValueKit.Geometry
public import Idealize.ShloMosaic.Lib.MatmulPlain
public import Idealize.ShloMosaic.Lib.StackMember

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.ValueIdx
open scoped BigOperators

variable {F : FTy → Type} [FloatOps F]

local notation "𝕄" => MT nD τ sig Unit (Elt F) ℕ UU ℕ

variable (m : (ℓ : Loc nD τ sig) → Buf (Elt F) ℓ)

/-! ## The result array -/

theorem lt31 : 31 < grid0.N := by rw [show grid0.N = 32 from N_0]; decide

theorem whole1 (c : Dev nD) : ((cfg0 (F := F) (adm c)).win 1).WholeAt ⟨31, lt31⟩ := by
  refine ⟨by rw [flush1]; rfl, fun t ht => ?_, fun a => ?_⟩
  · rw [flush1] at ht
    exact Fin.ext (of_decide_eq_true ht)
  · match a with
    | ⟨0, _⟩ => exact ⟨rfl, rfl⟩
    | ⟨1, _⟩ => exact ⟨rfl, rfl⟩

/-- After the last point the result array holds what the output window came to hold. -/
theorem final (c : Dev nD) : (dat m c).arrAt (1 : Fin 2) grid0.N = (outV (inputs m) c : S1024x4096.Idx → Elt F .f32) :=
  (dat m c).arrAt_eq_of_after_last 1 ⟨31, lt31⟩ (whole1 c) (outV (inputs m) c : S1024x4096.Idx → Elt F .f32)
    (fun j => rfl) (Memref.isWhole_whole _)

/-! ## The accumulator without its unit axis -/

variable (I : Inputs F)

/-- Chunk `n` of the accumulator after step `J`, as a matrix. -/
def accW (c : Dev nD) (n : Fin 4) (J : ℕ) : S1024x1024.Idx → Elt F .f32 :=
  shapeCast S1024x1024 (accV I c n J : FVec F S1x1024x1024 .f32) shapeCasts_S1x1024x1024_S1024x1024

theorem accW_zero (c : Dev nD) (n : Fin 4) : accW I c n 0 = res I c 0 n :=
  shapeCast_shapeCast _ _ _

theorem accW_add (c : Dev nD) (n : Fin 4) {J : ℕ} (j : Fin 8) (h : J + 1 = j.val) (hj : j.val ≠ 7) :
    accW I c n (J + 1) = addf (accW I c n J : FVec F S1024x1024 .f32) (res I c j n) := by
  have hlt := j.isLt
  unfold accW
  rw [accV, if_neg (by omega)]
  have e : (⟨(J + 1) % 8, Nat.mod_lt _ (by decide)⟩ : Fin 8) = j := Fin.ext (by show (J + 1) % 8 = j.val; omega)
  rw [e]
  exact shapeCast_shapeCast _ _ _

theorem accW_last (c : Dev nD) (n : Fin 4) :
    accW I c n 7 = maximumf (addf (accW I c n 6 : FVec F S1024x1024 .f32) (res I c 7 n)) (broadcast S1024x1024 (Scalar.ofBits .f32 0x00000000#32 : F .f32)) := by
  unfold accW
  rw [accV, if_pos rfl]
  exact shapeCast_shapeCast _ _ _

/-- The last chunk: the sum over the steps, cut off at zero. -/
theorem accW_ideal (I : Inputs Ideal) (c : Dev nD) (n : Fin 4) (z : S1024x1024.Idx) :
    (accW I c n 7 z : EReal) = max (∑ j : Fin 8, (res I c j n z : EReal)) 0 := by
  rw [accW_last, accW_add I c n (J := 5) 6 rfl (by decide), accW_add I c n (J := 4) 5 rfl (by decide), accW_add I c n (J := 3) 4 rfl (by decide),
    accW_add I c n (J := 2) 3 rfl (by decide), accW_add I c n (J := 1) 2 rfl (by decide), accW_add I c n (J := 0) 1 rfl (by decide), accW_zero, Fin.sum_univ_eight]
  show max (_ : EReal) (Ideal.ofBits .f32 0x00000000#32) = _
  rw [Ideal.ofBits_zero_f32]
  rfl

/-! ## A product, entry by entry -/

theorem res_ideal (I : Inputs Ideal) (c : Dev nD) (j : Fin 8) (n : Fin 4) (r s : Fin 1024) :
    (res I c j n (ix2 r s) : EReal) = ∑ k : Fin 1024, ((xblk I (nx c j) c (ix2 r k) : EReal) * (I.w c j n (ix2 k s) : EReal)) := by
  have hd : dot_S1024x1024_S1024x1024_S1024x1024_1_0_0_1_n_n = DotDims.plain 1024 1024 1024 := rfl
  unfold res prod
  rw [shapeCast_self, hd]
  refine (Ideal.matmul_plain_apply (M := 1024) (K := 1024) (N := 1024) none _ _ _ r s).trans ?_
  show Ideal.ofBits .f32 0x00000000#32 + _ = _
  rw [Ideal.ofBits_zero_f32, zero_add]
  rfl

/-- A sum over eight blocks of 1024 is the sum over the whole axis. -/
theorem sum_blocks (h : Fin 8192 → EReal) :
    ∑ d : Fin 8, ∑ k : Fin 1024, h ⟨d.val * 1024 + k.val, by have := d.isLt; have := k.isLt; omega⟩ = ∑ K : Fin 8192, h K := by
  rw [← Fintype.sum_prod_type' (f := fun (d : Fin 8) (k : Fin 1024) => h ⟨d.val * 1024 + k.val, by have := d.isLt; have := k.isLt; omega⟩)]
  rw [← Equiv.sum_comp (finProdFinEquiv (m := 8) (n := 1024)) (fun K : Fin (8 * 1024) => h ⟨K.val, K.isLt⟩)]
  refine Finset.sum_congr rfl fun p _ => congrArg h (Fin.ext ?_)
  show p.1.val * 1024 + p.2.val = p.2.val + 1024 * p.1.val
  omega

/-! ## The result, entry by entry -/

variable (mi : (ℓ : Loc nD τ sig) → Buf (Elt Ideal) ℓ)

theorem xblk_inputs (c d : Dev nD) (X : S8192x1024.Idx → EReal) (hX : (mi ((d : Thread nD τ).loc main_arg0) : S8192x1024.Idx → EReal) = X) (r k : Fin 1024) :
    (xblk (inputs mi) d c (ix2 r k) : EReal) = X (ix2 (⟨c.val * 1024 + r.val, by have := c.isLt; have := r.isLt; have : c.val < 8 := c.isLt; omega⟩ : Fin 8192) k) := by
  subst hX
  refine congrArg (mi ((d : Thread nD τ).loc main_arg0) : S8192x1024.Idx → EReal) ?_
  funext a
  refine Fin.ext ?_
  match a with
  | ⟨0, _⟩ => show 1024 * c.val + 1 * r.val = c.val * 1024 + r.val; omega
  | ⟨1, _⟩ => show 0 + 1 * k.val = k.val; omega

/-- If every device holds its block of columns of `A` and the whole of `B`, device `c`'s result is its block of rows of the product, cut off at zero. -/
theorem out_ideal (A : (⟨2, ![8192, 8192]⟩ : Shape).Idx → EReal) (B : S8192x4096.Idx → EReal)
    (hA : ∀ d : Dev nD, (mi ((d : Thread nD τ).loc main_arg0) : S8192x1024.Idx → EReal) = fun y => A (ix2 (⟨(y 0).val, (y 0).isLt⟩ : Fin 8192) (⟨d.val * 1024 + (y 1).val, by have h : (y 1).val < 1024 := (y 1).isLt; have : d.val < 8 := d.isLt; omega⟩ : Fin 8192)))
    (hB : ∀ d : Dev nD, (mi ((d : Thread nD τ).loc main_arg1) : S8192x4096.Idx → EReal) = B) (c : Dev nD) (r : Fin 1024) (s : Fin 4096) :
    (outV (inputs mi) c (ix2 r s) : EReal)
      = max (∑ K : Fin 8192, A (ix2 (⟨c.val * 1024 + r.val, by have := r.isLt; have : c.val < 8 := c.isLt; omega⟩ : Fin 8192) K) * B (ix2 K s)) 0 := by
  have hs := s.isLt
  have hc : c.val < 8 := c.isLt
  refine (accW_ideal (inputs mi) c ⟨s.val / 1024, by omega⟩ (ix2 r (⟨s.val % 1024, Nat.mod_lt _ (by decide)⟩ : Fin 1024))).trans ?_
  refine congrArg (fun z : EReal => max z 0) ?_
  let h : Fin 8192 → EReal := fun K => A (ix2 (⟨c.val * 1024 + r.val, by have := r.isLt; omega⟩ : Fin 8192) K) * B (ix2 K s)
  let g : Dev nD → EReal := fun d => ∑ k : Fin 1024, h ⟨d.val * 1024 + k.val, by have := k.isLt; have : d.val < 8 := d.isLt; omega⟩
  have e : ∀ j : Fin 8, (res (inputs mi) c j ⟨s.val / 1024, by omega⟩ (ix2 r (⟨s.val % 1024, Nat.mod_lt _ (by decide)⟩ : Fin 1024)) : EReal) = g (nx c j) := fun j => by
    rw [res_ideal]
    refine Finset.sum_congr rfl fun k _ => ?_
    rw [xblk_inputs mi c (nx c j) _ (hA (nx c j))]
    refine congrArg₂ (· * ·) (congrArg A ?_) ?_
    · rfl
    · show (mi ((c : Thread nD τ).loc main_arg1) : S8192x4096.Idx → EReal) (wIdx (nx c j) _ _) = _
      rw [hB c]
      refine congrArg B ?_
      funext a
      refine Fin.ext ?_
      match a with
      | ⟨0, _⟩ => rfl
      | ⟨1, _⟩ => show s.val / 1024 * 1024 + s.val % 1024 = s.val; omega
  refine (Finset.sum_congr rfl fun j _ => e j).trans ?_
  refine (Equiv.sum_comp (around c) g).trans ?_
  exact sum_blocks h

end Cert.KernelIdeal.Exchange

end
-- ==== Proof.lean ====
/-
  The five claims about the all-to-all matrix product: the printed kernel, its reading over the extended reals and the
  reference each run to the end with their arguments unchanged and every counter back at zero; the reading over the
  extended reals rewrites nothing; and each device's result is its block of rows of the reference's result. The runs of
  the kernel are Proof/Real/Run.lean and Proof/Ideal/Run.lean, the value of the result Proof/Ideal/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Real.Run
public import proofs.«01_k».proof.Proof.Ideal.Value
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx
open scoped BigOperators

/-- The kernel runs to the end, its arguments unchanged, every counter back at zero. -/
theorem kernel_runs : Cert.quiescent_Kernel := fun m g _ =>
  (θ_run _ _ _).mono (fun _ h => ⟨fun c => ⟨(h.1 c).1, (h.1 c).2.1⟩, h.2⟩) (Cert.Kernel.Exchange.run_main m g)

/-- So does its reading over the extended reals. -/
theorem ideal_runs : Cert.quiescent_KernelIdeal := fun m g _ =>
  (θ_run _ _ _).mono (fun _ h => ⟨fun c => ⟨(h.1 c).1, (h.1 c).2.1⟩, h.2⟩) (Cert.KernelIdeal.Exchange.run_main m g)

/-- And the reference. -/
theorem reference_runs : Cert.quiescent_ReferenceIdeal := fun m g _ =>
  (θ_run _ _ _).mono (fun r h => ⟨fun c => (by obtain rfl : c = 0 := Subsingleton.elim _ _; exact (h 0).2), sem_eq_zero_of_no_sems (by decide) r.2⟩)
    (Cert.ReferenceIdeal.Value.run (F := Ideal) m g)

section Value

open Cert.ReferenceIdeal Cert.ReferenceIdeal.Gen

/-- The reference's result: the whole product, cut off at zero. -/
def whole (A : S8192x8192.Idx → EReal) (B : S8192x4096.Idx → EReal) : S8192x4096.Idx → EReal :=
  maximumf (Host.dotGeneral (F := Ideal) (φ₁ := .f32) (φ₂ := .f32) dot_S8192x8192_S8192x4096_S8192x4096_1_0_0_1_n_n none (A : FVec Ideal S8192x8192 .f32) (B : FVec Ideal S8192x4096 .f32) : FVec Ideal S8192x4096 .f32)
    (broadcastInDim S8192x4096 ![] bcast_S_S8192x4096 (constant S_ .f32 0x00000000#32 : FVec Ideal S_ .f32))

theorem whole_apply (A : S8192x8192.Idx → EReal) (B : S8192x4096.Idx → EReal) (R : Fin 8192) (s : Fin 4096) :
    whole A B (ix2 R s) = max (∑ K : Fin 8192, A (ix2 R K) * B (ix2 K s)) 0 := by
  have hd : dot_S8192x8192_S8192x4096_S8192x4096_1_0_0_1_n_n = DotDims.plain 8192 8192 4096 := rfl
  unfold whole
  rw [hd]
  show max (Host.dotGeneral (F := Ideal) (φ₁ := .f32) (φ₂ := .f32) (DotDims.plain 8192 8192 4096) none (A : FVec Ideal S8192x8192 .f32) (B : FVec Ideal S8192x4096 .f32) (ix2 R s) : EReal) (Ideal.ofBits .f32 0x00000000#32) = _
  rw [Ideal.ofBits_zero_f32]
  exact congrArg (fun z : EReal => max z 0) (StackMember.dotGeneral_plain_apply (m := 8192) (k := 8192) (n := 4096) none A B R s)

end Value

/-- Each device's result is its block of rows of the reference's. -/
theorem same_value : Cert.algebraic_KernelIdeal_ReferenceIdeal := fun m g m' g' _ hin => by
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).2.2.trans ?_, (h.1 c).1, (h.1 c).2.1⟩) (Cert.KernelIdeal.Exchange.run_main m g)
    rw [Cert.KernelIdeal.Exchange.final]
    funext y
    obtain ⟨a, b, rfl⟩ : ∃ (a : Fin 1024) (b : Fin 4096), y = ix2 a b := ⟨y 0, y 1, eq_ix2 y⟩
    refine (Cert.KernelIdeal.Exchange.out_ideal m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (fun d => (hin d).1.trans ?_) (fun d => (hin d).2) c a b).trans ?_
    · funext y
      unfold Layout.block
      refine congrArg (m' (((0 : Dev Cert.ReferenceIdeal.nD).tc : Thread Cert.ReferenceIdeal.nD Cert.ReferenceIdeal.τ).loc Cert.ReferenceIdeal.main_arg0)) ?_
      funext a
      refine Fin.ext ?_
      match a with
      | ⟨0, _⟩ => rfl
      | ⟨1, _⟩ => rfl
    · refine (whole_apply _ _ _ b).symm.trans ?_
      unfold Layout.block
      refine congrArg (whole _ _) ?_
      funext a
      refine Fin.ext ?_
      match a with
      | ⟨0, _⟩ => rfl
      | ⟨1, _⟩ => rfl
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  kernel_runs, ideal_runs, reference_runs, trivial, same_value⟩

end Cert.Proof

end
